-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![8192, 8192]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 8192]⟩ ⟨2, ![2048, 8192]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S512x8192 : Shape := ⟨2, ![512, 8192]⟩
abbrev S2x512x8192 : Shape := ⟨3, ![2, 512, 8192]⟩
abbrev S2x2048x512 : Shape := ⟨3, ![2, 2048, 512]⟩
abbrev S3 : Shape := ⟨1, ![3]⟩
abbrev S_ : Shape := ⟨0, ![]⟩
abbrev S2 : Shape := ⟨1, ![2]⟩
abbrev S2048x512 : Shape := ⟨2, ![2048, 512]⟩
abbrev S1 : Shape := ⟨1, ![1]⟩
abbrev S1x2048x512 : Shape := ⟨3, ![1, 2048, 512]⟩
abbrev S512x512 : Shape := ⟨2, ![512, 512]⟩
abbrev S1x512x8192 : Shape := ⟨3, ![1, 512, 8192]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S512x8192, .f32⟩
  | .local _ .vmem, ⟨0, _⟩ => ⟨S2048x2048, .bf16⟩
  | .local _ .vmem, ⟨1, _⟩ => ⟨S512x8192, .f32⟩
  | .local _ .vmem, ⟨2, _⟩ => ⟨S2x512x8192, .bf16⟩
  | .local _ .vmem, ⟨3, _⟩ => ⟨S2x512x8192, .bf16⟩
  | .local _ .vmem, ⟨4, _⟩ => ⟨S2x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_off1 (d0 : Dev nD) (c1_i32_17 : BitVec 32) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_16 : BitVec 32 := 4#32
  let v32 : BitVec 32 := Scalar.addi v8 c4_i32_16
  let v33 : BitVec 32 := Scalar.subi v32 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : Index := Scalar.indexCast v44
  ![0, v45.toNat]
def k0_dev1 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v353 : BitVec 32 := Scalar.muli v2 c16_i32_330
  let v354 : BitVec 32 := Scalar.addi c0_i32_331 v353
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v355 : BitVec 32 := Scalar.muli v5 c4_i32_332
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_333 : BitVec 32 := 1#32
  let v357 : BitVec 32 := Scalar.muli v31 c1_i32_333
  let v358 : BitVec 32 := Scalar.addi v356 v357
  v358.toNat
def k0_dev2 (d0 : Dev nD) : Nat :=
  let c0_i32_336 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_335 : BitVec 32 := 16#32
  let v359 : BitVec 32 := Scalar.muli v2 c16_i32_335
  let v360 : BitVec 32 := Scalar.addi c0_i32_336 v359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_337 : BitVec 32 := 4#32
  let v361 : BitVec 32 := Scalar.muli v5 c4_i32_337
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_338 : BitVec 32 := 1#32
  let v363 : BitVec 32 := Scalar.muli v19 c1_i32_338
  let v364 : BitVec 32 := Scalar.addi v362 v363
  v364.toNat
def k0_dev3 (d0 : Dev nD) : Nat :=
  let c0_i32_345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_344 : BitVec 32 := 16#32
  let v365 : BitVec 32 := Scalar.muli v2 c16_i32_344
  let v366 : BitVec 32 := Scalar.addi c0_i32_345 v365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v367 : BitVec 32 := Scalar.muli v5 c4_i32_346
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_347 : BitVec 32 := 1#32
  let v369 : BitVec 32 := Scalar.muli v19 c1_i32_347
  let v370 : BitVec 32 := Scalar.addi v368 v369
  v370.toNat
def k0_dev4 (d0 : Dev nD) : Nat :=
  let c0_i32_721 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_720 : BitVec 32 := 16#32
  let v719 : BitVec 32 := Scalar.muli v2 c16_i32_720
  let v720 : BitVec 32 := Scalar.addi c0_i32_721 v719
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_722 : BitVec 32 := 4#32
  let v721 : BitVec 32 := Scalar.muli v5 c4_i32_722
  let v722 : BitVec 32 := Scalar.addi v720 v721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_723 : BitVec 32 := 1#32
  let v723 : BitVec 32 := Scalar.muli v31 c1_i32_723
  let v724 : BitVec 32 := Scalar.addi v722 v723
  v724.toNat
def k0_dev5 (d0 : Dev nD) : Nat :=
  let c0_i32_729 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_728 : BitVec 32 := 16#32
  let v725 : BitVec 32 := Scalar.muli v2 c16_i32_728
  let v726 : BitVec 32 := Scalar.addi c0_i32_729 v725
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_730 : BitVec 32 := 4#32
  let v727 : BitVec 32 := Scalar.muli v5 c4_i32_730
  let v728 : BitVec 32 := Scalar.addi v726 v727
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_731 : BitVec 32 := 1#32
  let v729 : BitVec 32 := Scalar.muli v19 c1_i32_731
  let v730 : BitVec 32 := Scalar.addi v728 v729
  v730.toNat
def k0_dev6 (d0 : Dev nD) : Nat :=
  let c0_i32_1118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1117 : BitVec 32 := 16#32
  let v1085 : BitVec 32 := Scalar.muli v2 c16_i32_1117
  let v1086 : BitVec 32 := Scalar.addi c0_i32_1118 v1085
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1119 : BitVec 32 := 4#32
  let v1087 : BitVec 32 := Scalar.muli v5 c4_i32_1119
  let v1088 : BitVec 32 := Scalar.addi v1086 v1087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1120 : BitVec 32 := 1#32
  let v1089 : BitVec 32 := Scalar.muli v19 c1_i32_1120
  let v1090 : BitVec 32 := Scalar.addi v1088 v1089
  v1090.toNat
def k0_off2 (d0 : Dev nD) : Fin 2 → Nat :=
  let c0_1135 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_1134 : BitVec 32 := 512#32
  let v1105 : BitVec 32 := Scalar.muli v8 c512_i32_1134
  let v1106 : Index := Scalar.indexCast v1105
  ![0, v1106.toNat]
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .hbm, ⟨3, _⟩ => ⟨S2048x8192, .f32⟩
  | .hbm, ⟨4, _⟩ => ⟨S2048x8192, .bf16⟩
  | .hbm, ⟨5, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Blocks.lean ====
/-
The ring of four devices along the mesh's last axis, and the values that travel round it.

Device `c` sits at place `c % 4` of a ring of four devices that share the other two mesh coordinates. It holds a block
`x` of 2048 rows of the left operand and a block `dy` of 2048 rows of the right one. The result is `xᵀ · dy` summed over
the four devices of the ring, and device `c` keeps the 512 rows numbered `512 * (c % 4)` onwards of it.

This file names the values (`partialOf`, `acc0` … `outOf`) over any float, and says what the buffers hold when they
are read back: a tile of `dy` landed in one of the two tile slots, a slot of the send buffer filled tile by tile, and
one such slot plus a received one.
-/
module

public import proofs.«01_k».proof.Proof.Gen.KernelIdeal
public import proofs.«01_k».proof.Proof.Gen.KernelIdeal.Skeleton
public import Idealize.ShloMosaic.Lib.Writes
public import Idealize.ShloMosaic.Lib.ViewIndex
public import Idealize.ShloMosaic.Lib.ValueIdxCore
public import Idealize.ShloMosaic.Lib.Pipeline.Value

@[expose] public section

noncomputable section

namespace Cert.Ring

open Cert.KernelIdeal Cert.KernelIdeal.Gen
open Idealize.ShloMosaic Idealize.ShloMosaic.TcCoe Idealize.ShloMosaic.ValueIdx

variable {F : FTy → Type} [FloatOps F]

/-! ## The ring -/

theorem nxt_lt (c : Dev nD) : c.val - c.val % 4 + (c.val + 1) % 4 < nD := by revert c; decide
theorem prv_lt (c : Dev nD) : c.val - c.val % 4 + (c.val + 3) % 4 < nD := by revert c; decide

/-- The device after `c` on its ring. -/
def nxt (c : Dev nD) : Dev nD := ⟨c.val - c.val % 4 + (c.val + 1) % 4, nxt_lt c⟩
/-- The device before `c` on its ring. -/
def prv (c : Dev nD) : Dev nD := ⟨c.val - c.val % 4 + (c.val + 3) % 4, prv_lt c⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem prv_prv_prv (c : Dev nD) : prv (prv (prv c)) = nxt c := by revert c; decide

def ring : Dev nD ≃ Dev nD := ⟨nxt, prv, prv_nxt, nxt_prv⟩

/-- The devices the program names: it signals the device before it and then the one after it, sends three times to
    the device after it, and gives its one credit to the device before it. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel

/-- The columns of `x` each phase multiplies by: those of the rows kept by the device before, two before, after, and by
    the device itself. -/
theorem off_phase0 (c : Dev nD) : k0_off1 c 1#32 = ![0, 512 * ((prv c).val % 4)] := by revert c; decide +kernel
theorem off_phase1 (c : Dev nD) : k0_off1 c 2#32 = ![0, 512 * ((prv (prv c)).val % 4)] := by revert c; decide +kernel
theorem off_phase2 (c : Dev nD) : k0_off1 c 3#32 = ![0, 512 * ((prv (prv (prv c))).val % 4)] := by revert c; decide +kernel
theorem off_phase3 (c : Dev nD) : k0_off2 c = ![0, 512 * (c.val % 4)] := by revert c; decide +kernel

/-! ## The values -/

/-- A block of the left operand, of the right one, and a 512-row block of the result in the narrow and the wide float. -/
abbrev XBlk (F : FTy → Type) : Type := S2048x2048.Idx → Elt F .bf16
abbrev YBlk (F : FTy → Type) : Type := S2048x8192.Idx → Elt F .bf16
abbrev Part (F : FTy → Type) : Type := S512x8192.Idx → Elt F .bf16
abbrev Wide (F : FTy → Type) : Type := S512x8192.Idx → Elt F .f32

/-- The 512 columns of `x` that device `d`'s rows of the result come from. -/
def colsOf (x : XBlk F) (d : Dev nD) : S2048x512.Idx → Elt F .bf16 :=
  fun j => x (ix2 (j 0) ⟨512 * (d.val % 4) + (j 1).val, by have := (j 1).isLt; simp at this; omega⟩)

/-- Tile `n` of `dy`: its 512 columns from `512 * n`, as a slot of the tile buffer holds them. -/
def tileOf (y : YBlk F) (n : Fin 16) : S1x2048x512.Idx → Elt F .bf16 :=
  fun j => y (ix2 (j 1) ⟨512 * n.val + (j 2).val, by have := (j 2).isLt; simp at this; omega⟩)

/-- Where column `i` of a result block is found: its tile, and its column there. -/
def tileNo (i : S512x8192.Idx) : Fin 16 := ⟨(i 1).val / 512, by have := (i 1).isLt; simp at this; omega⟩
def inTile (i : S512x8192.Idx) : S1x512x512.Idx := ix3 (0 : Fin 1) (i 0) ⟨(i 1).val % 512, Nat.mod_lt _ (by decide)⟩

/-- One device's contribution to device `d`'s rows of the result: `xᵀ · dy` on those rows, rounded to the narrow float. -/
def partialOf (x : XBlk F) (y : YBlk F) (d : Dev nD) : Part F :=
  fun i => k0_pay2 (k0_pay1 (colsOf x d)) (tileOf y (tileNo i)) (inTile i)

section Travelling

variable (x : Dev nD → XBlk F) (y : Dev nD → YBlk F)

/-- What device `c` sends first: its contribution to the rows of the device before it. -/
def acc0 (c : Dev nD) : Part F := partialOf (x c) (y c) (prv c)
/-- What it sends second: its contribution to the rows of the device two before it, plus what came first. -/
def acc1 (c : Dev nD) : Part F := addf (φ := .bf16) (partialOf (x c) (y c) (prv (prv c))) (acc0 x y (prv c))
/-- What it sends third. -/
def acc2 (c : Dev nD) : Part F := addf (φ := .bf16) (partialOf (x c) (y c) (prv (prv (prv c)))) (acc1 x y (prv c))
/-- What it keeps: its contribution to its own rows plus what came third, added in the wide float. -/
def outOf (c : Dev nD) : Wide F :=
  addf (φ := .f32) (extf .f32 (φ := .bf16) (partialOf (x c) (y c) c) bitsLt_bf16_f32)
    (extf .f32 (φ := .bf16) (acc2 x y (prv c)) bitsLt_bf16_f32)

end Travelling

/-! ## Slots -/

theorem inb_slot (d : Fin 2) : ∀ a, (![d.val, 0, 0] : Fin 3 → Nat) a + S1x512x8192.size a ≤ S2x512x8192.size a := by
  revert d; decide
theorem inb_tile (d : Fin 2) : ∀ a, (![d.val, 0, 0] : Fin 3 → Nat) a + S1x2048x512.size a ≤ S2x2048x512.size a := by
  revert d; decide

/-- Slot `d` of a two-slot buffer of result blocks. -/
abbrev slotOf (M : Memref sig .tc .vmem S2x512x8192 .bf16) (d : Fin 2) : Memref sig .tc .vmem S512x8192 .bf16 :=
  (M.slice (Rect.unit (s := S2x512x8192) ![d.val, 0, 0] S1x512x8192.size (inb_slot d)) (fun _ => rfl)).squeeze S512x8192 squeezes_S1x512x8192_S512x8192

abbrev sBuf : Memref sig .tc .vmem S2x512x8192 .bf16 := Memref.whole cc0_scratch0
abbrev rBuf : Memref sig .tc .vmem S2x512x8192 .bf16 := Memref.whole cc0_scratch1
abbrev dBuf : Memref sig .tc .vmem S2x2048x512 .bf16 := Memref.whole cc0_scratch2
abbrev xBuf : Memref sig .tc .vmem S2048x2048 .bf16 := Memref.whole cc0_stg0_0
abbrev yBuf : Memref sig .tc .hbm S2048x8192 .bf16 := Memref.whole main_arg1
abbrev oBuf : Memref sig .tc .vmem S512x8192 .f32 := Memref.whole cc0_stg1_0

abbrev sM (d : Fin 2) : Memref sig .tc .vmem S512x8192 .bf16 := slotOf sBuf d
abbrev rM (d : Fin 2) : Memref sig .tc .vmem S512x8192 .bf16 := slotOf rBuf d
/-- Slot `d` of the tile buffer. -/
abbrev dM (d : Fin 2) : Memref sig .tc .vmem S2048x512 .bf16 :=
  (dBuf.slice (Rect.unit (s := S2x2048x512) ![d.val, 0, 0] S1x2048x512.size (inb_tile d)) (fun _ => rfl)).squeeze S2048x512 squeezes_S1x2048x512_S2048x512

/-- A place of a slot, as a place of the two-slot buffer. -/
abbrev inSlot (d : Fin 2) (i : S512x8192.Idx) : S2x512x8192.Idx := ix3 d (i 0) (i 1)

omit [FloatOps F] in
theorem read_slot (M : Memref sig .tc .vmem S2x512x8192 .bf16) (d : Fin 2) (f : M.view.ty.Contents (Elt F)) (i : S512x8192.Idx) :
    (slotOf M d).view.read (Elt F) f i = M.view.read (Elt F) f (inSlot d i) := by
  have e : (Rect.unit (s := S2x512x8192) ![d.val, 0, 0] S1x512x8192.size (inb_slot d)).emb
      (Shape.reshapeEquiv squeezes_S1x512x8192_S512x8192.numel_eq i) = inSlot d i := by
    refine Rect.emb_eq_of_coords _ _ _ fun a => ?_
    rw [show Shape.reshapeEquiv squeezes_S1x512x8192_S512x8192.numel_eq i = Fin.cons ⟨0, Nat.one_pos⟩ i from
      Shape.reshapeEquiv_cons_one _ i]
    match a with
    | ⟨0, _⟩ => rfl
    | ⟨1, _⟩ => exact (by simp : (i 0).val = 0 + 1 * (i 0).val)
    | ⟨2, _⟩ => exact (by simp : (i 1).val = 0 + 1 * (i 1).val)
  show M.view.read (Elt F) f ((Rect.unit (s := S2x512x8192) ![d.val, 0, 0] S1x512x8192.size (inb_slot d)).emb
      (Shape.reshapeEquiv squeezes_S1x512x8192_S512x8192.numel_eq i)) = _
  rw [e]

omit [FloatOps F] in
/-- A load of a whole slot, with its leading axis of one. -/
theorem load_slot (M : Memref sig .tc .vmem S2x512x8192 .bf16) (d : Fin 2) (f : M.view.ty.Contents (Elt F))
    (h : ∀ a, (![d.val, 0, 0] : Fin 3 → Nat) a + S1x512x8192.size a ≤ S2x512x8192.size a) (j : S1x512x8192.Idx) :
    M.view.readAt (Elt F) (Rect.unit (s := S2x512x8192) ![d.val, 0, 0] S1x512x8192.size h).toLoadRect f j
      = (slotOf M d).view.read (Elt F) f (ix2 (j 1) (j 2)) := by
  rw [read_slot]
  show M.view.read (Elt F) f ((Rect.unit (s := S2x512x8192) ![d.val, 0, 0] S1x512x8192.size h).emb j) = _
  congr 1
  refine Rect.emb_eq_of_coords _ _ _ fun a => ?_
  match a with
  | ⟨0, _⟩ => exact (by have := (j 0).isLt; simp at this; simp; omega : d.val = d.val + 1 * (j 0).val)
  | ⟨1, _⟩ => exact (by simp : (j 1).val = 0 + 1 * (j 1).val)
  | ⟨2, _⟩ => exact (by simp : (j 2).val = 0 + 1 * (j 2).val)

/-! ## Loads of the operands -/

omit [FloatOps F] in
theorem load_cols (f : XBlk F) (d : Dev nD) {off : Fin 2 → Nat} (ho : off = ![0, 512 * (d.val % 4)])
    (h : ∀ a, off a + S2048x512.size a ≤ S2048x2048.size a) :
    xBuf.view.readAt (Elt F) (Rect.unit (s := S2048x2048) off S2048x512.size h).toLoadRect f = colsOf f d := by
  subst ho
  funext j
  show f ((Rect.unit (s := S2048x2048) _ S2048x512.size h).emb j) = _
  unfold colsOf
  congr 1
  refine Rect.emb_eq_of_coords _ _ _ fun a => ?_
  match a with
  | ⟨0, _⟩ => exact (by simp : (j 0).val = 0 + 1 * (j 0).val)
  | ⟨1, _⟩ => exact (by simp : 512 * (d.val % 4) + (j 1).val = 512 * (d.val % 4) + 1 * (j 1).val)

omit [FloatOps F] in
/-- A tile of `dy` copied into a slot of the tile buffer and loaded from it. -/
theorem load_tile (d : Fin 2) (y : YBlk F) (n : Fin 16) (f : dBuf.view.ty.Contents (Elt F))
    (h : ∀ a, (![d.val, 0, 0] : Fin 3 → Nat) a + S1x2048x512.size a ≤ S2x2048x512.size a)
    {off : Fin 2 → Nat} (ho : off = ![0, 512 * n.val]) (hi : ∀ a, off a + S2048x512.size a ≤ S2048x8192.size a) (hst)
    (l : List (View.Piece (Elt F) S2048x512 .bf16)) :
    dBuf.view.readAt (Elt F) (Rect.unit (s := S2x2048x512) ![d.val, 0, 0] S1x2048x512.size h).toLoadRect
      ((dM d).view.writes (Elt F) f (⟨Rect.whole S2048x512, ReadAs.same.apply ((yBuf.slice (Rect.unit (s := S2048x8192) off S2048x512.size hi) hst).view.read (Elt F) y)⟩ :: l))
      = tileOf y n := by
  subst ho
  funext j
  have e : (Rect.unit (s := S2x2048x512) ![d.val, 0, 0] S1x2048x512.size (inb_tile d)).emb
      (Shape.reshapeEquiv squeezes_S1x2048x512_S2048x512.numel_eq (ix2 (j 1) (j 2) : S2048x512.Idx))
      = (Rect.unit (s := S2x2048x512) ![d.val, 0, 0] S1x2048x512.size h).emb j := by
    congr 1
    refine (Shape.reshapeEquiv_cons_one _ _).trans (funext fun a => ?_)
    match a with
    | ⟨0, _⟩ => exact Fin.ext (by have := (j 0).isLt; simp at this; exact this.symm)
    | ⟨1, _⟩ => rfl
    | ⟨2, _⟩ => rfl
  show dBuf.view.read (Elt F) _ ((Rect.unit (s := S2x2048x512) ![d.val, 0, 0] S1x2048x512.size h).emb j) = _
  rw [← e]
  show (dM d).view.read (Elt F) _ (ix2 (j 1) (j 2)) = _
  rw [View.read_writes_cons_hit_of_coords (x := ix2 (j 1) (j 2)) (hx := fun a => by
    match a with
    | ⟨0, _⟩ => exact (by simp : (j 1).val = 0 + 1 * (j 1).val)
    | ⟨1, _⟩ => exact (by simp : (j 2).val = 0 + 1 * (j 2).val))]
  show y ((Rect.unit (s := S2048x8192) _ S2048x512.size hi).emb (ix2 (j 1) (j 2))) = _
  unfold tileOf
  congr 1
  refine Rect.emb_eq_of_coords _ _ _ fun a => ?_
  match a with
  | ⟨0, _⟩ => exact (by simp : (j 1).val = 0 + 1 * (j 1).val)
  | ⟨1, _⟩ => exact (by simp : 512 * n.val + (j 2).val = 512 * n.val + 1 * (j 2).val)

/-! ## A slot filled tile by tile -/

/-- The first `n` tiles of slot `d` of the send buffer hold `B`. -/
def Filled (d : Fin 2) (B : Part F) (n : ℕ) (f : sBuf.view.ty.Contents (Elt F)) : Prop :=
  ∀ i : S512x8192.Idx, (i 1).val < 512 * n → (sM d).view.read (Elt F) f i = B i

omit [FloatOps F] in
theorem Filled.zero (d : Fin 2) (B : Part F) (f : sBuf.view.ty.Contents (Elt F)) : Filled d B 0 f :=
  fun _ h => absurd h (by simp)

omit [FloatOps F] in
theorem Filled.full {d : Fin 2} {B : Part F} {f : sBuf.view.ty.Contents (Elt F)} (h : Filled d B 16 f) :
    (sM d).view.read (Elt F) f = B :=
  funext fun i => h i (by have := (i 1).isLt; simp at this; omega)

/-- Storing the next tile of the product. -/
theorem Filled.step {d : Fin 2} {x : XBlk F} {y : YBlk F} {e : Dev nD} (n : Fin 16) {f : sBuf.view.ty.Contents (Elt F)}
    (hf : Filled d (partialOf x y e) n.val f)
    {X : S2048x512.Idx → Elt F .bf16} {Y : S1x2048x512.Idx → Elt F .bf16} {w : S1x512x512.Idx → Elt F .bf16}
    (hX : X = colsOf x e) (hY : Y = tileOf y n) (hw : w = k0_pay2 (k0_pay1 X) Y)
    {off : Fin 3 → Nat} (ho : off = ![d.val, 0, 512 * n.val]) (h : ∀ a, off a + S1x512x512.size a ≤ S2x512x8192.size a) :
    Filled d (partialOf x y e) (n.val + 1)
      ((sBuf.access (Rect.unit (s := S2x512x8192) off S1x512x512.size h)).write (Elt F) f w Finset.univ) := by
  subst ho hX hY hw
  intro i hi
  rw [read_slot]
  show sBuf.view.read (Elt F) (sBuf.view.writes (Elt F) f [⟨Rect.unit (s := S2x512x8192) _ S1x512x512.size h, _⟩]) _ = _
  by_cases hlt : (i 1).val < 512 * n.val
  · rw [View.read_writes_cons_miss_of_axis (a := ⟨2, by decide⟩) (o := 512 * n.val) (n := 512) (ho := rfl) (hst := rfl) (hn := rfl)
      (h := .inl hlt)]
    rw [View.writes_nil, ← read_slot]
    exact hf i hlt
  · have hq : (i 1).val / 512 = n.val := by omega
    rw [View.read_writes_cons_hit_of_coords (x := inTile i) (hx := fun a => by
      match a with
      | ⟨0, _⟩ => exact (by simp : d.val = d.val + 1 * 0)
      | ⟨1, _⟩ => exact (by simp : (i 0).val = 0 + 1 * (i 0).val)
      | ⟨2, _⟩ => exact (by omega : (i 1).val = 512 * n.val + 1 * ((i 1).val % 512)))]
    unfold partialOf
    rw [show tileNo i = n from Fin.ext hq]
    rfl

/-- The slot of the tile buffer that tile `n` comes through. -/
abbrev tileSlot (n : ℕ) : Fin 2 := ⟨n % 2, Nat.mod_lt n Nat.two_pos⟩

/-- The same, with the operands as the program loads them: tile `n` comes through slot `n % 2` of the tile buffer. -/
theorem Filled.tile {d : Fin 2} {x : XBlk F} {y : YBlk F} {e : Dev nD} {offx : Fin 2 → Nat} (hx : offx = ![0, 512 * (e.val % 4)])
    {n : ℕ} (hn : n < 16) {f : sBuf.view.ty.Contents (Elt F)} (hf : Filled d (partialOf x y e) n f)
    {g : dBuf.view.ty.Contents (Elt F)} {l : List (View.Piece (Elt F) S2048x512 .bf16)}
    {h : ∀ a, offx a + S2048x512.size a ≤ S2048x2048.size a} {ho : ∀ a, (![(tileSlot n).val, 0, 0] : Fin 3 → Nat) a + S1x2048x512.size a ≤ S2x2048x512.size a}
    {hi : ∀ a, (![0, 512 * n] : Fin 2 → Nat) a + S2048x512.size a ≤ S2048x8192.size a} {hst}
    {hs : ∀ a, (![d.val, 0, 512 * n] : Fin 3 → Nat) a + S1x512x512.size a ≤ S2x512x8192.size a} :
    Filled d (partialOf x y e) (n + 1)
      ((sBuf.access (Rect.unit (s := S2x512x8192) ![d.val, 0, 512 * n] S1x512x512.size hs)).write (Elt F) f
        (k0_pay2 (k0_pay1 (xBuf.view.readAt (Elt F) (Rect.unit (s := S2048x2048) offx S2048x512.size h).toLoadRect x))
          (dBuf.view.readAt (Elt F) (Rect.unit (s := S2x2048x512) ![(tileSlot n).val, 0, 0] S1x2048x512.size ho).toLoadRect
            ((dM (tileSlot n)).view.writes (Elt F) g
              (⟨Rect.whole S2048x512, ReadAs.same.apply ((yBuf.slice (Rect.unit (s := S2048x8192) ![0, 512 * n] S2048x512.size hi) hst).view.read (Elt F) y)⟩ :: l))))
        Finset.univ) := by
  have hX := load_cols x e hx h
  have hY := load_tile (tileSlot n) y ⟨n, hn⟩ g ho rfl hi hst l
  generalize xBuf.view.readAt (Elt F) (Rect.unit (s := S2048x2048) offx S2048x512.size h).toLoadRect x = X at hX ⊢
  generalize dBuf.view.readAt (Elt F) _ _ = Y at hY ⊢
  exact Filled.step ⟨n, hn⟩ hf hX hY rfl rfl hs

/-! ## Sums of blocks -/

/-- A block with a leading axis of one. -/
abbrev lead {α : Type} (B : S512x8192.Idx → α) : S1x512x8192.Idx → α := fun j => B (ix2 (j 1) (j 2))

theorem dropLead {α : Type} (B : S512x8192.Idx → α) (h) : shapeCast S512x8192 (lead B) h = B := by
  funext i
  refine (shapeCast_dropUnit_apply _ (lead B) h i).trans ?_
  exact congrArg B (funext fun a => match a with | ⟨0, _⟩ => rfl | ⟨1, _⟩ => rfl)

theorem addLead {α : Type} (B : S512x8192.Idx → α) (h) : shapeCast S1x512x8192 B h = lead B := by
  funext j
  refine (shapeCast_addUnit_apply _ B h j).trans ?_
  exact congrArg B (funext fun a => match a with | ⟨0, _⟩ => rfl | ⟨1, _⟩ => rfl)

theorem sum_lead (A B : Part F) : k0_pay43 (lead A) (lead B) = lead (addf (φ := .bf16) A B) := by
  unfold k0_pay43
  dsimp only
  rw [dropLead, dropLead, addLead]

theorem out_lead (A B : Part F) :
    k0_pay85 (lead A) (lead B) = addf (φ := .f32) (extf .f32 (φ := .bf16) A bitsLt_bf16_f32) (extf .f32 (φ := .bf16) B bitsLt_bf16_f32) := by
  unfold k0_pay85
  dsimp only
  rw [dropLead, dropLead]

omit [FloatOps F] in
/-- A slot of the send buffer, stored as a whole and read back. -/
theorem read_store_slot (d : Fin 2) (f : sBuf.view.ty.Contents (Elt F)) (B : Part F)
    (h : ∀ a, (![d.val, 0, 0] : Fin 3 → Nat) a + S1x512x8192.size a ≤ S2x512x8192.size a) :
    (sM d).view.read (Elt F) ((sBuf.access (Rect.unit (s := S2x512x8192) ![d.val, 0, 0] S1x512x8192.size h)).write (Elt F) f (lead B) Finset.univ) = B := by
  funext i
  rw [read_slot]
  show sBuf.view.read (Elt F) (sBuf.view.writes (Elt F) f [⟨Rect.unit (s := S2x512x8192) _ S1x512x8192.size h, _⟩]) _ = _
  rw [View.read_writes_cons_hit_of_coords (x := ix3 (0 : Fin 1) (i 0) (i 1)) (hx := fun a => by
    match a with
    | ⟨0, _⟩ => exact (by simp : d.val = d.val + 1 * 0)
    | ⟨1, _⟩ => exact (by simp : (i 0).val = 0 + 1 * (i 0).val)
    | ⟨2, _⟩ => exact (by simp : (i 1).val = 0 + 1 * (i 1).val))]
  exact congrArg B (funext fun a => match a with | ⟨0, _⟩ => rfl | ⟨1, _⟩ => rfl)

/-- A received block added into a slot of the send buffer. -/
theorem read_sum_slot {d e : Fin 2} {f : sBuf.view.ty.Contents (Elt F)} {g : rBuf.view.ty.Contents (Elt F)} {A B : Part F}
    (hA : (sM d).view.read (Elt F) f = A) (hB : (rM e).view.read (Elt F) g = B)
    {h h' : ∀ a, (![d.val, 0, 0] : Fin 3 → Nat) a + S1x512x8192.size a ≤ S2x512x8192.size a}
    {h'' : ∀ a, (![e.val, 0, 0] : Fin 3 → Nat) a + S1x512x8192.size a ≤ S2x512x8192.size a} :
    (sM d).view.read (Elt F) ((sBuf.access (Rect.unit (s := S2x512x8192) ![d.val, 0, 0] S1x512x8192.size h)).write (Elt F) f
      (k0_pay43 (sBuf.view.readAt (Elt F) (Rect.unit (s := S2x512x8192) ![d.val, 0, 0] S1x512x8192.size h').toLoadRect f)
        (rBuf.view.readAt (Elt F) (Rect.unit (s := S2x512x8192) ![e.val, 0, 0] S1x512x8192.size h'').toLoadRect g)) Finset.univ)
      = addf (φ := .bf16) A B := by
  rw [show sBuf.view.readAt (Elt F) (Rect.unit (s := S2x512x8192) ![d.val, 0, 0] S1x512x8192.size h').toLoadRect f = lead A from
      funext fun j => (load_slot sBuf d f h' j).trans (congrFun hA _),
    show rBuf.view.readAt (Elt F) (Rect.unit (s := S2x512x8192) ![e.val, 0, 0] S1x512x8192.size h'').toLoadRect g = lead B from
      funext fun j => (load_slot rBuf e g h'' j).trans (congrFun hB _),
    sum_lead]
  exact read_store_slot d f _ h

/-- The last received block and the device's own contribution, added in the wide float. -/
theorem out_sum_slot {d e : Fin 2} {f : sBuf.view.ty.Contents (Elt F)} {g : rBuf.view.ty.Contents (Elt F)} {A B : Part F}
    (hA : (sM d).view.read (Elt F) f = A) (hB : (rM e).view.read (Elt F) g = B)
    {h' : ∀ a, (![d.val, 0, 0] : Fin 3 → Nat) a + S1x512x8192.size a ≤ S2x512x8192.size a}
    {h'' : ∀ a, (![e.val, 0, 0] : Fin 3 → Nat) a + S1x512x8192.size a ≤ S2x512x8192.size a} :
    k0_pay85 (sBuf.view.readAt (Elt F) (Rect.unit (s := S2x512x8192) ![d.val, 0, 0] S1x512x8192.size h').toLoadRect f)
        (rBuf.view.readAt (Elt F) (Rect.unit (s := S2x512x8192) ![e.val, 0, 0] S1x512x8192.size h'').toLoadRect g)
      = addf (φ := .f32) (extf .f32 (φ := .bf16) A bitsLt_bf16_f32) (extf .f32 (φ := .bf16) B bitsLt_bf16_f32) := by
  rw [show sBuf.view.readAt (Elt F) (Rect.unit (s := S2x512x8192) ![d.val, 0, 0] S1x512x8192.size h').toLoadRect f = lead A from
      funext fun j => (load_slot sBuf d f h' j).trans (congrFun hA _),
    show rBuf.view.readAt (Elt F) (Rect.unit (s := S2x512x8192) ![e.val, 0, 0] S1x512x8192.size h'').toLoadRect g = lead B from
      funext fun j => (load_slot rBuf e g h'' j).trans (congrFun hB _),
    out_lead]

/-- The output buffer after the one store of that sum. -/
theorem out_written (o : oBuf.view.ty.Contents (Elt F)) {d e : Fin 2} {f : sBuf.view.ty.Contents (Elt F)} {g : rBuf.view.ty.Contents (Elt F)} {A B : Part F}
    (hA : (sM d).view.read (Elt F) f = A) (hB : (rM e).view.read (Elt F) g = B)
    {h : ∀ a, (![0, 0] : Fin 2 → Nat) a + S512x8192.size a ≤ S512x8192.size a}
    {h' : ∀ a, (![d.val, 0, 0] : Fin 3 → Nat) a + S1x512x8192.size a ≤ S2x512x8192.size a}
    {h'' : ∀ a, (![e.val, 0, 0] : Fin 3 → Nat) a + S1x512x8192.size a ≤ S2x512x8192.size a} :
    oBuf.view.writes (Elt F) o [⟨Rect.unit (s := S512x8192) ![0, 0] S512x8192.size h,
        k0_pay85 (sBuf.view.readAt (Elt F) (Rect.unit (s := S2x512x8192) ![d.val, 0, 0] S1x512x8192.size h').toLoadRect f)
          (rBuf.view.readAt (Elt F) (Rect.unit (s := S2x512x8192) ![e.val, 0, 0] S1x512x8192.size h'').toLoadRect g)⟩]
      = addf (φ := .f32) (extf .f32 (φ := .bf16) A bitsLt_bf16_f32) (extf .f32 (φ := .bf16) B bitsLt_bf16_f32) := by
  rw [out_sum_slot hA hB]
  exact Memref.write_access_unit_zero_univ (Elt F) cc0_stg1_0 (off := ![0, 0]) (funext fun a => by fin_cases a <;> rfl) h o _

end Cert.Ring

end
-- ==== Proof.Protocol.lean ====
/-
How the devices of a ring synchronise: the semaphore cells, what each raise of a cell hands to the device that waits
on it, what a device owes at launch, and the order in which it may wait.

Every device has eight cells, numbered as the table `csem` lists them: the barrier (0), the credit (1), the three send
semaphores (2, 3, 4) and the three receive semaphores (5, 6, 7). Each is waited on once and filled once, so each has one
round.

* barrier — two units. The one from the device after brings that device's two receive slots, which is what lets the
  waiting device send into them; the one from the device before brings nothing.
* credit — one unit from the device after, once it has used what it received first: its first receive slot comes along,
  free to be sent into again.
* send `h` — the send slot of hop `h` comes back to its owner.
* receive `h` — the receive slot of hop `h` comes back to its owner, holding what the device before sent.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.Rounds

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The ring's own ghost state, and beside it the launch's and that of transfers within a device. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

/-- The runtime's barrier semaphore, as the program names it. -/
abbrev barS : Sem sig := (SemArray.scalar (sig.barrier 0 rfl) : Sems sig S_).sem

/-- The eight semaphores. -/
abbrev csem : Fin 8 → SemLoc sig :=
  ![.reg barS, .reg (cc0_scratch5 : Sems sig S_).sem, .dma 2, .dma 3, .dma 4, .dma 5, .dma 6, .dma 7]

/-- Cell `k` of device `c`. -/
abbrev cellAt (c : Dev nD) (k : Fin 8) : GSem nD τ sig := ((c : Thread nD τ), csem k)

/-- Which of the eight a semaphore is. -/
def which (s : SemLoc sig) : Option (Fin 8) := (List.finRange 8).find? fun k => csem k = s

theorem which_csem (k : Fin 8) : which (csem k) = some k := by revert k; decide
theorem csem_inj : Function.Injective csem := fun a b h => Option.some.inj ((which_csem a).symm.trans ((congrArg which h).trans (which_csem b)))
theorem which_dy : which (.dma 8) = none ∧ which (.dma 9) = none := by decide

/-- The units one slot's transfer raises a semaphore by. -/
abbrev N : ℕ := (rM 0).view.dmaCredit
theorem N_pos : 0 < N := View.dmaCredit_pos _ (by decide)

/-- The units of one raise of cell `k`. -/
def units (k : Fin 8) : ℕ := if k.val < 2 then 1 else N
theorem units_pos (k : Fin 8) : 0 < units k := by unfold units; split; exacts [Nat.one_pos, N_pos]

/-! ## The schedule -/

/-- Device `c` holds the memref's elements, at contents not said. -/
def free (c : Dev nD) {sh : Shape} {e : EltTy} {sp : Space} (M : Memref sig .tc sp sh e) : sProp 𝕄 :=
  iprop(∃ f, M.view.loc (c : Thread nD τ) ↦[M.view.set]{fullShare} f)

instance free_storable (c : Dev nD) {sh : Shape} {e : EltTy} {sp : Space} (M : Memref sig .tc sp sh e) :
    BI.Storable (upEmb : UEmb _ 𝕄) (free (F := F) c M) := by unfold free; infer_instance

section Schedule

variable (x : Dev nD → XBlk F) (y : Dev nD → YBlk F)

/-- What a raise of cell `k` of device `c` hands it. `true` is the raise of the barrier by the device after; every other
    raise is `false`. -/
def handed (c : Dev nD) (d : Bool) : Fin 8 → sProp 𝕄
  | 0 => if d then iprop(free (nxt c) (rM 0) ∗ free (nxt c) (rM 1)) else iprop(emp)
  | 1 => free (nxt c) (rM 0)
  | 2 => owns (c : Thread nD τ) (sM 0) fullShare (acc0 x y c)
  | 3 => owns (c : Thread nD τ) (sM 1) fullShare (acc1 x y c)
  | 4 => owns (c : Thread nD τ) (sM 0) fullShare (acc2 x y c)
  | 5 => owns (c : Thread nD τ) (rM 0) fullShare (acc0 x y (prv c))
  | 6 => owns (c : Thread nD τ) (rM 1) fullShare (acc1 x y (prv c))
  | 7 => owns (c : Thread nD τ) (rM 0) fullShare (acc2 x y (prv c))

instance handed_storable (c : Dev nD) (d : Bool) (k : Fin 8) : BI.Storable (upEmb : UEmb _ 𝕄) (handed x y c d k) := by
  fin_cases k
  · cases d
    · show BI.Storable upEmb iprop(emp); infer_instance
    · show BI.Storable upEmb iprop(free (nxt c) (rM 0) ∗ free (nxt c) (rM 1)); infer_instance
  · exact free_storable _ _
  all_goals exact owns_storable _ _ _ _

/-- Who raises cell `k`: both neighbours the barrier, one device any other. -/
def raises (k : Fin 8) : Finset Bool := if k = 0 then Finset.univ else {false}

/-- The one round of every cell. -/
def Rd : Rounds.Schedule (GSem nD τ sig) Bool 𝕄 where
  duties g r := if r = 0 ∧ g.1.2 = .tc then (which g.2).elim ∅ raises else ∅
  unitless _ := False
  amount g _ _ := (which g.2).elim 1 units
  payload g _ d := (which g.2).elim iprop(emp) (handed x y g.1.1 d)
  amount_pos g _ _ _ := by cases which g.2 with | none => exact Nat.one_pos | some k => exact units_pos k

instance Rd_storable (g : GSem nD τ sig) (r : ℕ) (d : Bool) : BI.Storable (upEmb : UEmb _ 𝕄) ((Rd x y).payload g r d) := by
  show BI.Storable upEmb ((which g.2).elim iprop(emp) (handed x y g.1.1 d))
  cases which g.2 with
  | none => show BI.Storable upEmb iprop(emp); infer_instance
  | some k => exact handed_storable x y g.1.1 d k

variable (c : Dev nD) (k : Fin 8)

theorem duties_at : (Rd x y).duties (cellAt c k) 0 = raises k := by
  show (if 0 = 0 ∧ (Proc.tc : Proc τ) = .tc then (which (csem k)).elim ∅ raises else ∅) = _
  rw [if_pos ⟨rfl, rfl⟩, which_csem]; rfl
theorem duties_later (g : GSem nD τ sig) (r : ℕ) (hr : 0 + 1 ≤ r) : (Rd x y).duties g r = ∅ := if_neg fun h => by omega
theorem amount_at (d : Bool) : (Rd x y).amount (cellAt c k) 0 d = units k := by
  show (which (csem k)).elim 1 units = _; rw [which_csem]; rfl
theorem payload_at (d : Bool) : (Rd x y).payload (cellAt c k) 0 d = handed x y c d k := by
  show (which (csem k)).elim _ (handed x y c d) = _; rw [which_csem]; rfl

theorem false_mem : false ∈ (Rd x y).duties (cellAt c k) 0 := by
  rw [duties_at]; unfold raises; split <;> decide
theorem true_mem : true ∈ (Rd x y).duties (cellAt c 0) 0 := by
  rw [duties_at]; decide

/-- The units a cell's round brings. -/
def total (k : Fin 8) : ℕ := if k = 0 then 2 else units k

theorem expect_at : (Rd x y).expect (cellAt c k) 0 = total k := by
  unfold Schedule.expect Schedule.amountOf total
  rw [duties_at, Finset.sum_congr rfl fun d _ => amount_at x y c k d, Finset.sum_const, smul_eq_mul]
  unfold raises
  split
  · next h => subst h; rfl
  · rw [Finset.card_singleton, Nat.one_mul]

/-- What the whole round of the barrier hands over, and of any other cell. -/
theorem rest_bar : bigSep ((Rd x y).duties (cellAt c 0) 0 \ ∅) (fun d => (Rd x y).payload (cellAt c 0) 0 d)
    = iprop(emp ∗ free (nxt c) (rM 0) ∗ free (nxt c) (rM 1)) := by
  rw [Finset.sdiff_empty, duties_at, show raises 0 = Finset.univ from rfl,
    bigSep_univ_eq_bigSepL [false, true] (by decide) (by decide), bigSepL_cons_cons, bigSepL_singleton, payload_at, payload_at]
  rfl
theorem rest_at (hk : k ≠ 0) : bigSep ((Rd x y).duties (cellAt c k) 0 \ ∅) (fun d => (Rd x y).payload (cellAt c k) 0 d)
    = handed x y c false k := by
  rw [Finset.sdiff_empty, duties_at, show raises k = {false} from if_neg hk, bigSep_singleton, payload_at]

end Schedule

/-! ## What a device owes -/

/-- The neighbour a raise goes to: the device after (`true`) or the device before. -/
def peer (c : Dev nD) (b : Bool) : Dev nD := if b then nxt c else prv c

/-- The raises a device makes of its neighbours' cells, in program order: the barrier of the device before and of the
    device after; hop 0; the credit to the device before; hop 1; hop 2. -/
def steps : List (Bool × Fin 8) := [(false, 0), (true, 0), (true, 5), (false, 1), (true, 6), (true, 7)]

/-- What device `c` owes for a list of such raises. -/
def due (c : Dev nD) : List (Bool × Fin 8) → CellTallies nD τ sig Unit
  | [] => 0
  | p :: l => due c l + tallyAt (cellAt (peer c p.1) p.2) () (units p.2)

theorem due_pos {c : Dev nD} {g : GSem nD τ sig} {u : Unit} : ∀ {l : List (Bool × Fin 8)}, 0 < due c l g u →
    ∃ p ∈ l, g = cellAt (peer c p.1) p.2
  | [], h => absurd h (Nat.lt_irrefl 0)
  | p :: l, h => by
    rw [due, Pi.add_apply, Finsupp.add_apply, tallyAt_apply] at h
    by_cases hp : g = cellAt (peer c p.1) p.2
    · exact ⟨p, List.mem_cons_self, hp⟩
    · rw [if_neg fun e => hp e.1] at h
      obtain ⟨q, hq, e⟩ := due_pos (l := l) h
      exact ⟨q, List.mem_cons_of_mem _ hq, e⟩

/-! ## The order of the waits -/

/-- The level of a semaphore: a device waits at a level only while it owes raises at higher ones. -/
def rank (s : SemLoc sig) : ℕ := (which s).elim 0 ![1, 3, 0, 0, 0, 2, 4, 5]
def L (g : GSem nD τ sig) : Finset Unit := if g.1.2 = .tc then {()} else ∅
def lv (g : GSem nD τ sig) (_ : Unit) : ℕ := rank g.2

theorem L_of_ne (g : GSem nD τ sig) (h : g.1.2 ≠ .tc) : L g = ∅ := if_neg h
theorem L_tc (c : Dev nD) (s : SemLoc sig) (u : Unit) : u ∈ L ((c : Thread nD τ), s) := by
  unfold L; rw [if_pos rfl]; exact Finset.mem_singleton_self _

/-- A device may wait on a semaphore that ranks below everything it still owes. -/
theorem mayWait (c : Dev nD) (s : SemLoc sig) (l : List (Bool × Fin 8)) (h : ∀ p ∈ l, rank s < rank (csem p.2)) :
    (levAts L lv : sProp 𝕄) ⊢ MayWait (c : Thread nD τ) s () (due c l) :=
  MayOwe.of_cut (L := L) (lev := lv) (rank s) (fun p hp => by rw [Finset.mem_singleton.mp hp]; exact L_tc c s ())
    (fun g u hg => by obtain ⟨p, -, rfl⟩ := due_pos hg; exact L_tc _ _ _)
    (fun p hp => by rw [Finset.mem_singleton.mp hp]; exact le_rfl)
    (fun g u hg => by obtain ⟨p, hp, rfl⟩ := due_pos hg; exact h p hp)

/-! ## What a device starts from and ends with -/

section Ghost

variable (x : Dev nD → XBlk F) (y : Dev nD → YBlk F)

/-- Every cell's invariant, and that its round is reached. -/
def records (K : Dev nD × Fin 8 → ℕ) : sProp 𝕄 :=
  bigSep Finset.univ fun ck : Dev nD × Fin 8 => iprop(cellInv ER (Rd x y) (K ck) (cellAt ck.1 ck.2) ∗ reached ER (cellAt ck.1 ck.2) 0)

instance records_persistent (K : Dev nD × Fin 8 → ℕ) : BI.Persistent (records x y K) := by unfold records; infer_instance

theorem record_at (K : Dev nD × Fin 8 → ℕ) (c : Dev nD) (k : Fin 8) :
    records x y K ⊢ iprop(cellInv ER (Rd x y) (K (c, k)) (cellAt c k) ∗ reached ER (cellAt c k) 0) :=
  bigSep_elim (Finset.mem_univ (c, k))
theorem inv_at (K : Dev nD × Fin 8 → ℕ) (c : Dev nD) (k : Fin 8) :
    records x y K ⊢ cellInv ER (Rd x y) (K (c, k)) (cellAt c k) := (record_at x y K c k).trans sep_elim_left
theorem reached_at (K : Dev nD × Fin 8 → ℕ) (c : Dev nD) (k : Fin 8) :
    records x y K ⊢ reached ER (cellAt c k) 0 := (record_at x y K c k).trans sep_elim_right

/-- Device `c`'s place in cell `k`, before the cell's round. -/
abbrev place (c : Dev nD) (k : Fin 8) : sProp 𝕄 := atPos ER (cellAt c k) 0 ∅ 0
/-- The right to raise cell `k` of device `c`. -/
abbrev right (c : Dev nD) (k : Fin 8) (d : Bool) : sProp 𝕄 := dutyTok ER (cellAt c k) 0 d

/-- Its place in its own eight cells. -/
def places (c : Dev nD) : sProp 𝕄 :=
  iprop(place c 0 ∗ place c 1 ∗ place c 2 ∗ place c 3 ∗ place c 4 ∗ place c 5 ∗ place c 6 ∗ place c 7)
/-- The rights to raise what it raises: both neighbours' barriers, the credit of the device before, its own send
    cells, the receive cells of the device after. -/
def rights (c : Dev nD) : sProp 𝕄 :=
  iprop(right (prv c) 0 true ∗ right (nxt c) 0 false ∗ right (prv c) 1 false
    ∗ right c 2 false ∗ right c 3 false ∗ right c 4 false
    ∗ right (nxt c) 5 false ∗ right (nxt c) 6 false ∗ right (nxt c) 7 false)
/-- The credit its waits on other devices' raises take. -/
def credits (c : Dev nD) : sProp 𝕄 :=
  iprop(cred (tallyAt (cellAt c 0) () 2) ∗ cred (tallyAt (cellAt c 1) () 1)
    ∗ cred (tallyAt (cellAt c 5) () N) ∗ cred (tallyAt (cellAt c 6) () N) ∗ cred (tallyAt (cellAt c 7) () N))

/-- Both slots of the three scratch buffers. -/
def slots (c : Dev nD) : sProp 𝕄 :=
  iprop((free c (sM 0) ∗ free c (sM 1)) ∗ (free c (rM 0) ∗ free c (rM 1)) ∗ (free c (dM 0) ∗ free c (dM 1)))
/-- The counters of the two semaphores that the tile copies use, at zero. -/
def dyZero (c : Dev nD) : sProp 𝕄 :=
  iprop(semVal ((c : Thread nD τ), .dma 8) 0 ∗ semVal ((c : Thread nD τ), .dma 9) 0)
/-- Its block of the right operand, which the kernel reads where it lies. -/
def yHeld (c : Dev nD) : sProp 𝕄 := (c : Thread nD τ).loc main_arg1 ↦{fullShare} y c
/-- Its eight counters at zero. -/
def cellsZero (c : Dev nD) : sProp 𝕄 :=
  iprop(semVal (cellAt c 0) 0 ∗ semVal (cellAt c 1) 0 ∗ semVal (cellAt c 2) 0 ∗ semVal (cellAt c 3) 0
    ∗ semVal (cellAt c 4) 0 ∗ semVal (cellAt c 5) 0 ∗ semVal (cellAt c 6) 0 ∗ semVal (cellAt c 7) 0)

/-- The ghost state of the protocol that a device starts from. -/
def start (c : Dev nD) : sProp 𝕄 := iprop((∃ K, records x y K) ∗ places c ∗ rights c ∗ credits c ∗ levAts L lv)

/-- Before the kernel, and after it. -/
def Φ₀ (c : Dev nD) : sProp 𝕄 := iprop(start x y c ∗ dyZero c ∗ yHeld y c ∗ slots c)
def Φ₁ (c : Dev nD) : sProp 𝕄 := iprop(cellsZero c ∗ dyZero c ∗ yHeld y c ∗ slots c)

end Ghost

end Cert.Ring

end
-- ==== Proof.Steps.lean ====
/-
One step of a device per kind of synchronisation: raising a neighbour's cell by one, sending a slot to the device
after, and waiting for a cell's round.
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → XBlk F) (y : Dev nD → YBlk F) (K : Dev nD × Fin 8 → ℕ)

abbrev 𝒱₀ : Variants := Variants.none

/-- What the raises that hand something over take from the device making them. -/
theorem give_slots (c : Dev nD) : iprop(free c (rM 0) ∗ free c (rM 1)) ⊢ (handed x y (peer c false) true 0 : sProp 𝕄) := by
  rw [show handed x y (peer c false) true 0 = iprop(free (nxt (prv c)) (rM 0) ∗ free (nxt (prv c)) (rM 1)) from rfl, nxt_prv]
theorem give_credit (c : Dev nD) : free c (rM 0) ⊢ (handed x y (peer c false) false 1 : sProp 𝕄) := by
  rw [show handed x y (peer c false) false 1 = free (nxt (prv c)) (rM 0) from rfl, nxt_prv]
theorem give_nothing (c : Dev nD) : iprop(emp) ⊢ (handed x y c false 0 : sProp 𝕄) := by
  rw [show handed x y c false 0 = iprop(emp) from rfl]

theorem free_intro (c : Dev nD) {sh : Shape} {e : EltTy} {sp : Space} (M : Memref sig .tc sp sh e) (f : M.view.ty.Contents (Elt F)) :
    (M.view.loc (c : Thread nD τ) ↦[M.view.set]{fullShare} f) ⊢ (free c M : sProp 𝕄) := by
  unfold free; iintro H; iexists f; iexact H

theorem owes_some (c : Dev nD) (O : CellTallies nD τ sig Unit) (W : Waits sig Unit) :
    owes (c : Thread nD τ) O W ⊢ (iprop(∃ W', owes (c : Thread nD τ) O W') : sProp 𝕄) := by
  iintro H; iexists W; iexact H

/-- The copies of tiles may be waited for whatever is owed. -/
theorem may_tile (c : Dev nD) (q : DmaSem sig) (hq : rank (.dma q) = 0) (l : List (Bool × Fin 8)) (hl : ∀ p ∈ l, 0 < rank (csem p.2)) :
    (levAts L lv : sProp 𝕄) ⊢ MayWait (c : Thread nD τ) (.dma q) () (due c l) :=
  mayWait c (.dma q) l fun p hp => hq ▸ hl p hp

/-- A raise by one unit of a neighbour's cell `k`, owed first. -/
theorem step_signal {c n : Dev nD} (b : Bool) (k : Fin 8) (d : Bool) (l : List (Bool × Fin 8)) (hn : n = peer c b) (hk : units k = 1)
    (hd : d ∈ raises k) (s : Sem sig) (hs : SemLoc.reg s = csem k) (W : Waits sig Unit)
    {α : Type} {Q : α → sProp 𝕄} {r : PUnit → Prog (TpuEff nD τ sig (Elt F) Λ₀ .tc) α} :
    iprop(records x y K ∗ owes (c : Thread nD τ) (due c ((b, k) :: l)) W ∗ right (peer c b) k d ∗ handed x y (peer c b) d k)
      ⊢ iprop((owes (c : Thread nD τ) (due c l) W -∗ wp frame (wpE (defs₀ (F := F)) 𝒱₀ (c : Thread nD τ) none) Set.univ (r ⟨⟩) Q)
          -∗ wp frame (wpE (defs₀ (F := F)) 𝒱₀ (c : Thread nD τ) none) Set.univ (.op (.semSignal (n, .tc) s ((1 : ℕ) : ℤ)) r) Q) := by
  subst hn
  have h := Rounds.wp_signal (defs := defs₀ (F := F)) 𝒱₀ ER (Rd x y) (c : Thread nD τ) none (dst := (peer c b : Thread nD τ)) (sem := s) (κ := K (peer c b, k))
    (r := 0) (d := d) (k' := 1) (Γ := .empty) (k := r) (Q := Q) (Es := Set.univ) (W := W)
    (by rw [hs, duties_at]; exact hd) (by rw [hs, amount_at]; exact hk) () (O₀ := due c ((b, k) :: l)) (due c l) (by rw [due, hk, hs])
  rw [hs, payload_at] at h
  iintro ⟨#HR, HO, Ht, Hp⟩
  ihave #HI := (inv_at x y K (peer c b) k) $$ HR
  ihave #Hr := (reached_at x y K (peer c b) k) $$ HR
  iapply h $$ [HO Ht Hp]
  isplitr; · iexact HI
  isplitl [HO]; · iexact HO
  isplitl [Ht]; · iexact Ht
  isplitl [Hp]; · iexact Hp
  iexact Hr

/-- A slot of the send buffer sent into the same slot of the receive buffer of the device after, owed first. -/
theorem step_send {c n : Dev nD} (d : Fin 2) (ks kr : Fin 8) (B : Part F) (l : List (Bool × Fin 8)) (hn : n = nxt c)
    (hs : handed x y c false ks = owns (c : Thread nD τ) (sM d) fullShare B)
    (hr : handed x y (nxt c) false kr = owns (nxt c : Thread nD τ) (rM d) fullShare B)
    (hus : units ks = N) (hur : units kr = N) (hN : (rM d).view.amount (csem kr) = N)
    (fs : sBuf.view.ty.Contents (Elt F)) (hf : (sM d).view.read (Elt F) fs = B) (W : Waits sig Unit)
    {hsc : (rM d : Memref sig (Dev.tc n : Thread nD τ).2.kind .vmem S512x8192 .bf16).view.ref.isScScratch = false}
    {hsrc : (sM d).view.WordExact} {hdst : (rM d).view.WordExact}
    {hsem : DmaTarget.Typed .vmem (csem kr) (.remote (Dev.tc n : Thread nD τ) (rM d : Memref sig .tc .vmem S512x8192 .bf16) (csem ks) hsc)}
    {α : Type} {Q : α → sProp 𝕄} {r : PUnit → Prog (TpuEff nD τ sig (Elt F) Λ₀ .tc) α} :
    iprop(records x y K ∗ ((sM d).view.loc (c : Thread nD τ) ↦[(sM d).view.set]{fullShare} fs) ∗ free (nxt c) (rM d)
        ∗ owes (c : Thread nD τ) (due c ((true, kr) :: l)) W ∗ right c ks false ∗ right (nxt c) kr false)
      ⊢ iprop(((cred (tallyAt (cellAt c ks) () (total ks)) ∗ owes (c : Thread nD τ) (due c l) W) -∗ wp frame (wpE (defs₀ (F := F)) 𝒱₀ (c : Thread nD τ) none) Set.univ (r ⟨⟩) Q)
          -∗ wp frame (wpE (defs₀ (F := F)) 𝒱₀ (c : Thread nD τ) none) Set.univ (.op (.enqueueDma (sM d) (.remote (Dev.tc n : Thread nD τ) (rM d) (csem ks) hsc) (csem kr) hsrc hdst hsem) r) Q) := by
  subst hn
  have ht : total ks = N := by
    unfold total; split
    · next h => subst h; exact absurd hus (by decide)
    · exact hus
  rw [ht]
  unfold free
  iintro ⟨#HR, Hs, ⟨%fr, Hr⟩, HO, Hts, Htr⟩
  ihave #HI₁ := (inv_at x y K c ks) $$ HR
  ihave #HI₂ := (inv_at x y K (nxt c) kr) $$ HR
  ihave #Hr₁ := (reached_at x y K c ks) $$ HR
  ihave #Hr₂ := (reached_at x y K (nxt c) kr) $$ HR
  iapply (Rounds.wp_send_pointsTo 𝒱₀ ER (Rd x y) (c : Thread nD τ) none (κ₁ := K (c, ks)) (κ₂ := K (nxt c, kr))
    (r₁ := 0) (r₂ := 0) (d₁ := false) (d₂ := false) (fd := fr)
    (false_mem x y c ks) (false_mem x y (nxt c) kr)
    () () N hN ((amount_at x y c ks false).trans hus) ((amount_at x y (nxt c) kr false).trans hur)
    (O₀ := due c ((true, kr) :: l)) (due c l) (by rw [due, hur]; rfl) (W := W)
    (by rw [payload_at, hs, ← hf]; exact owns_intro _ _ _ _)
    (by
      rw [payload_at, hr]; unfold owns
      iintro H; iexists _; isplitr; swap; · iexact H
      ipureintro; rw [View.read_write_univ]; exact hf)) $$ [Hs Hr HO Hts Htr]
  isplitr; · iexact HI₁
  isplitr; · iexact HI₂
  isplitl [Hs]; · iexact Hs
  isplitl [Hr]; · iexact Hr
  isplitl [HO]; · iexact HO
  isplitl [Hts]; · iexact Hts
  isplitr; · iexact Hr₁
  isplitl [Htr]; · iexact Htr
  iexact Hr₂

/-- A device's place in cell `k` once the cell's round is over. -/
abbrev passed (c : Dev nD) (k : Fin 8) : sProp 𝕄 := atPos ER (cellAt c k) (0 + 1) ∅ 0

/-- A wait for the round of cell `k`, which ranks below what is still owed. -/
theorem step_wait {c : Dev nD} (k : Fin 8) (l : List (Bool × Fin 8)) (hl : ∀ p ∈ l, rank (csem k) < rank (csem p.2)) (W : Waits sig Unit)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem k) (total k) R)
    {α : Type} {Q : α → sProp 𝕄} {r : PUnit → Prog (TpuEff nD τ sig (Elt F) Λ₀ .tc) α} :
    iprop(records x y K ∗ levAts L lv ∗ place c k ∗ cred (tallyAt (cellAt c k) () (total k)) ∗ owes (c : Thread nD τ) (due c l) W)
      ⊢ iprop(((owes (c : Thread nD τ) (due c l) (insert (csem k, ()) W) ∗ passed c k
            ∗ bigSep ((Rd x y).duties (cellAt c k) 0 \ ∅) (fun d => (Rd x y).payload (cellAt c k) 0 d)) -∗ wp frame (wpE (defs₀ (F := F)) 𝒱₀ (c : Thread nD τ) none) Set.univ (r ⟨⟩) Q)
          -∗ wp frame (wpE (defs₀ (F := F)) 𝒱₀ (c : Thread nD τ) none) Set.univ (.op w r) Q) := by
  iintro ⟨#HR, #Hlev, Hat, Hc, HO⟩ Hk
  ihave #HI := (inv_at x y K c k) $$ HR
  ihave #Hm := (mayWait c (csem k) l hl) $$ Hlev
  iapply (Rounds.wp_wait_rest_token 𝒱₀ ER (Rd x y) (c : Thread nD τ) none (κ := K (c, k)) hw (Set.mem_univ _) () (O := due c l) (W := W)
    (R := 0) (m := 0) (T := ∅) (by rw [Nat.zero_add, expect_at])) $$ [Hat Hc HO]
  · isplitr; · iexact HI
    isplitl [Hc]; · iexact Hc
    isplitl [HO]; · iexact HO
    isplitr; · iexact Hm
    iexact Hat
  iintro ⟨HO, Hat, -, Hp⟩
  iapply Hk
  isplitl [HO]; · iexact HO
  isplitl [Hat]; · iexact Hat
  iexact Hp

theorem units_N {k : Fin 8} (hk : 2 ≤ k.val) : units k = N := if_neg (Nat.not_lt.mpr hk)

/-- A cell past its round has its counter at zero for good. -/
theorem step_close (c : Dev nD) (k : Fin 8) : iprop(records x y K ∗ passed c k) ⊢ (|={Set.univ}=> semVal (cellAt c k) 0 : sProp 𝕄) := by
  iintro ⟨#HR, Hat⟩
  ihave #HI := (inv_at x y K c k) $$ HR
  iapply (Rounds.cell_close ER (Rd x y) (Set.mem_univ (K (c, k))) (fun h => h) (R := 0 + 1) (duties_later x y (cellAt c k)))
  isplitr; · iexact HI
  iexact Hat

end Cert.Ring

end
-- ==== Proof.Body.lean ====
/-
The kernel's body, run once for a device taken as a variable: the four phases of products, the handshake with both
neighbours, the three sends round the ring and the two sums on the way, the credit, and the last sum.
-/
module

public import proofs.«01_k».proof.Proof.Steps
public import proofs.«01_k».proof.Proof.Gen.KernelIdeal.Frame
public import proofs.«01_k».proof.Proof.Gen.KernelIdeal.Skeleton

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (x : Dev nD → XBlk F) (y : Dev nD → YBlk F)

set_option maxRecDepth 65536 in
set_option maxHeartbeats 4000000 in
/-- From the schedule's records, the device's places and rights, its credits and its buffers, the body runs to its end:
    every counter of its cells is back at zero, both operands are as they were, and the result buffer holds `outOf`. -/
theorem sound_body (c : Dev nD) (K : Dev nD × Fin 8 → ℕ) (W : Waits sig Unit) (fo : oBuf.view.ty.Contents (Elt F)) (Kt : PUnit → sProp 𝕄) :
    iprop(records x y K ∗ places c ∗ rights c ∗ credits c ∗ levAts L lv ∗ dyZero c ∗ yHeld y c ∗ slots c
        ∗ owes (c : Thread nD τ) (due c steps) W
        ∗ (xBuf.view.loc (c : Thread nD τ) ↦{fullShare} x c) ∗ (oBuf.view.loc (c : Thread nD τ) ↦{fullShare} fo)
        ∗ (iprop(cellsZero c ∗ dyZero c ∗ yHeld y c ∗ slots c ∗ (∃ W', owes (c : Thread nD τ) 0 W')
            ∗ (xBuf.view.loc (c : Thread nD τ) ↦{fullShare} x c) ∗ (oBuf.view.loc (c : Thread nD τ) ↦{fullShare} outOf x y c)) -∗ Kt ⟨⟩))
      ⊢ wp frame (wpE (defs₀ (F := F)) 𝒱₀ (c : Thread nD τ) none) Set.univ (bodyAt0 (F := F) t0_0) Kt := by
  unfold places rights credits dyZero slots free yHeld
  iintro ⟨#HR, ⟨P0, P1, P2, P3, P4, P5, P6, P7⟩, ⟨R0p, R0n, R1, R2, R3, R4, R5, R6, R7⟩, ⟨C0, C1, C5, C6, C7⟩, #Hlev, ⟨Hq0, Hq1⟩, Hy,
    ⟨⟨⟨%fs0, Hs0⟩, ⟨%fs1, Hs1⟩⟩, ⟨⟨%fr0, Hr0⟩, ⟨%fr1, Hr1⟩⟩, ⟨⟨%fd0, Hd0⟩, ⟨%fd1, Hd1⟩⟩⟩, HO, Hx, Ho, Hk⟩
  ihave Hy := (show ((c : Thread nD τ).loc main_arg1 ↦{fullShare} y c : sProp 𝕄) ⊢ (yBuf.view.loc (c : Thread nD τ) ↦{fullShare} y c) from .rfl) $$ Hy
  have mw8 := may_tile (F := F) c 8 (by decide) steps (by decide)
  have mw9 := may_tile (F := F) c 9 (by decide) steps (by decide)
  unfold bodyAt0
  rw [cc0_body_eq_skeleton]; unfold cc0_body_skel
  set_option sl_exec.dmaWindow true in
    sl_exec
  clear mw8 mw9
  have h0 : (sM 0).view.read (Elt F) (sound_body.sl.Hs0_w16 x y c fs0) = acc0 x y c := by
    refine Filled.full ?_
    iterate 16 refine Filled.tile (off_phase0 c) (by decide) ?_
    exact Filled.zero _ _ _
  -- the barrier
  iapply (step_signal x y K false 0 true (steps.drop 1) (dev1_eq c) rfl (by decide) barS rfl _) $$ [HO R0p Hr0 Hr1]
  · isplitr; · iexact HR
    isplitl [HO]; · iexact HO
    isplitl [R0p]; · iexact R0p
    iapply (give_slots x y c)
    isplitl [Hr0]
    · iapply (free_intro c (rM 0) _); iexact Hr0
    · iapply (free_intro c (rM 1) _); iexact Hr1
  iintro HO
  rw [wp_ret]; imodintro
  sl_exec
  iapply (step_signal x y K true 0 false (steps.drop 2) (dev2_eq c) rfl (by decide) barS rfl _) $$ [HO R0n]
  · isplitr; · iexact HR
    isplitl [HO]; · iexact HO
    isplitl [R0n]; · iexact R0n
    iapply (give_nothing x y _); iempintro
  iintro HO
  rw [wp_ret]; imodintro
  sl_exec
  iapply (step_wait x y K 0 (steps.drop 2) (by decide) _ (wpE_semWait_eq 𝒱₀ (c : Thread nD τ) none Set.univ)) $$ [P0 C0 HO]
  · isplitr; · iexact HR
    isplitr; · iexact Hlev
    isplitl [P0]; · iexact P0
    isplitl [C0]; · iexact C0
    iexact HO
  iintro ⟨HO, P0, Hp⟩
  ihave Hp := (Entails.of_eq (rest_bar x y c)) $$ Hp
  icases Hp with ⟨-, Hn0, Hn1⟩
  sl_exec
  -- hop 0
  iapply (step_send x y K 0 2 5 (acc0 x y c) (steps.drop 3) (dev3_eq c) rfl
    (by rw [show acc0 x y c = acc0 x y (prv (nxt c)) by rw [prv_nxt]]; rfl) rfl rfl rfl _ h0 _) $$ [Hs0 Hn0 HO R2 R5]
  · isplitr; · iexact HR
    isplitl [Hs0]; · iexact Hs0
    isplitl [Hn0]; · iexact Hn0
    isplitl [HO]; · iexact HO
    isplitl [R2]; · iexact R2
    iexact R5
  iintro ⟨C2, HO⟩
  ihave HO := (owes_some c _ _) $$ HO
  icases HO with ⟨%W1, HO⟩
  have mw8 := may_tile (F := F) c 8 (by decide) (steps.drop 3) (by decide)
  have mw9 := may_tile (F := F) c 9 (by decide) (steps.drop 3) (by decide)
  set_option sl_exec.dmaWindow true in
    sl_exec
  clear mw8 mw9
  have h1 : (sM 1).view.read (Elt F) (sound_body.sl.Hs1_w16 x y c fs1) = partialOf (x c) (y c) (prv (prv c)) := by
    refine Filled.full ?_
    iterate 16 refine Filled.tile (off_phase1 c) (by decide) ?_
    exact Filled.zero _ _ _
  ihave HO := (owes_some c _ _) $$ HO
  icases HO with ⟨%W2, HO⟩
  iapply (step_wait x y K 5 (steps.drop 3) (by decide) _ (wpE_waitDma2_eq (dst := rM 0) 𝒱₀ (c : Thread nD τ) none Set.univ)) $$ [P5 C5 HO]
  · isplitr; · iexact HR
    isplitr; · iexact Hlev
    isplitl [P5]; · iexact P5
    isplitl [C5]; · iexact C5
    iexact HO
  iintro ⟨HO, P5, Hp⟩
  ihave Hp := (Entails.of_eq (rest_at x y c 5 (by decide))) $$ Hp
  ihave Hp := (show handed x y c false 5 ⊢ (owns (c : Thread nD τ) (rM 0) fullShare (acc0 x y (prv c)) : sProp 𝕄) from .rfl) $$ Hp
  unfold owns
  icases Hp with ⟨%g0, %hg0, Hr0⟩
  sl_exec
  have h1 : (sM 1).view.read (Elt F) (sound_body.sl.Hs1_w1_1 x y c fs1 g0) = acc1 x y c :=
    read_sum_slot h1 hg0
  -- the credit for the slot just read
  iapply (step_signal x y K false 1 false (steps.drop 4) (dev4_eq c) rfl (by decide) cc0_scratch5.sem rfl _) $$ [HO R1 Hr0]
  · isplitr; · iexact HR
    isplitl [HO]; · iexact HO
    isplitl [R1]; · iexact R1
    iapply (give_credit x y c)
    iapply (free_intro c (rM 0) _); iexact Hr0
  iintro HO
  rw [wp_ret]; imodintro
  sl_exec
  -- hop 1
  iapply (step_send x y K 1 3 6 (acc1 x y c) (steps.drop 5) (dev5_eq c) rfl
    (by rw [show acc1 x y c = acc1 x y (prv (nxt c)) by rw [prv_nxt]]; rfl) rfl rfl rfl _ h1 _) $$ [Hs1 Hn1 HO R3 R6]
  · isplitr; · iexact HR
    isplitl [Hs1]; · iexact Hs1
    isplitl [Hn1]; · iexact Hn1
    isplitl [HO]; · iexact HO
    isplitl [R3]; · iexact R3
    iexact R6
  iintro ⟨C3, HO⟩
  ihave HO := (owes_some c _ _) $$ HO
  icases HO with ⟨%W3, HO⟩
  sl_exec
  -- the first send has left
  iapply (step_wait x y K 2 (steps.drop 5) (by decide) _ (wpE_waitDma2_eq (dst := sM 0) 𝒱₀ (c : Thread nD τ) none Set.univ)) $$ [P2 C2 HO]
  · isplitr; · iexact HR
    isplitr; · iexact Hlev
    isplitl [P2]; · iexact P2
    isplitl [C2]; · iexact C2
    iexact HO
  iintro ⟨HO, P2, Hp⟩
  ihave Hp := (Entails.of_eq (rest_at x y c 2 (by decide))) $$ Hp
  ihave Hp := (show handed x y c false 2 ⊢ (owns (c : Thread nD τ) (sM 0) fullShare (acc0 x y c) : sProp 𝕄) from .rfl) $$ Hp
  unfold owns
  icases Hp with ⟨%fs2, -, Hs0⟩
  have mw8 := may_tile (F := F) c 8 (by decide) (steps.drop 5) (by decide)
  have mw9 := may_tile (F := F) c 9 (by decide) (steps.drop 5) (by decide)
  set_option sl_exec.dmaWindow true in
    sl_exec
  clear mw8 mw9
  ihave HO := (owes_some c _ _) $$ HO
  icases HO with ⟨%W4, HO⟩
  iapply (step_wait x y K 6 (steps.drop 5) (by decide) _ (wpE_waitDma2_eq (dst := rM 1) 𝒱₀ (c : Thread nD τ) none Set.univ)) $$ [P6 C6 HO]
  · isplitr; · iexact HR
    isplitr; · iexact Hlev
    isplitl [P6]; · iexact P6
    isplitl [C6]; · iexact C6
    iexact HO
  iintro ⟨HO, P6, Hp⟩
  ihave Hp := (Entails.of_eq (rest_at x y c 6 (by decide))) $$ Hp
  ihave Hp := (show handed x y c false 6 ⊢ (owns (c : Thread nD τ) (rM 1) fullShare (acc1 x y (prv c)) : sProp 𝕄) from .rfl) $$ Hp
  unfold owns
  icases Hp with ⟨%g1, %hg1, Hr1⟩
  sl_exec
  have h2 : (sM 0).view.read (Elt F) (sound_body.sl.Hs0_w16_1 x y c fs2) = partialOf (x c) (y c) (prv (prv (prv c))) := by
    refine Filled.full ?_
    iterate 16 refine Filled.tile (off_phase2 c) (by decide) ?_
    exact Filled.zero _ _ _
  have h2 : (sM 0).view.read (Elt F) (sound_body.sl.Hs0_w1_2 x y c fs2 g1) = acc2 x y c :=
    read_sum_slot h2 hg1
  -- the credit of the device after
  iapply (step_wait x y K 1 (steps.drop 5) (by decide) _ (wpE_semWait_eq 𝒱₀ (c : Thread nD τ) none Set.univ)) $$ [P1 C1 HO]
  · isplitr; · iexact HR
    isplitr; · iexact Hlev
    isplitl [P1]; · iexact P1
    isplitl [C1]; · iexact C1
    iexact HO
  iintro ⟨HO, P1, Hp⟩
  ihave Hp := (Entails.of_eq (rest_at x y c 1 (by decide))) $$ Hp
  ihave Hn0 := (show handed x y c false 1 ⊢ (free (nxt c) (rM 0) : sProp 𝕄) from .rfl) $$ Hp
  sl_exec
  -- hop 2
  iapply (step_send x y K 0 4 7 (acc2 x y c) (steps.drop 6) (dev6_eq c) rfl
    (by rw [show acc2 x y c = acc2 x y (prv (nxt c)) by rw [prv_nxt]]; rfl) rfl rfl rfl _ h2 _) $$ [Hs0 Hn0 HO R4 R7]
  · isplitr; · iexact HR
    isplitl [Hs0]; · iexact Hs0
    isplitl [Hn0]; · iexact Hn0
    isplitl [HO]; · iexact HO
    isplitl [R4]; · iexact R4
    iexact R7
  iintro ⟨C4, HO⟩
  ihave HO := (owes_some c _ _) $$ HO
  icases HO with ⟨%W5, HO⟩
  sl_exec
  -- the second send has left
  iapply (step_wait x y K 3 (steps.drop 6) (by decide) _ (wpE_waitDma2_eq (dst := sM 1) 𝒱₀ (c : Thread nD τ) none Set.univ)) $$ [P3 C3 HO]
  · isplitr; · iexact HR
    isplitr; · iexact Hlev
    isplitl [P3]; · iexact P3
    isplitl [C3]; · iexact C3
    iexact HO
  iintro ⟨HO, P3, Hp⟩
  ihave Hp := (Entails.of_eq (rest_at x y c 3 (by decide))) $$ Hp
  ihave Hp := (show handed x y c false 3 ⊢ (owns (c : Thread nD τ) (sM 1) fullShare (acc1 x y c) : sProp 𝕄) from .rfl) $$ Hp
  unfold owns
  icases Hp with ⟨%fs3, -, Hs1⟩
  have mw8 := may_tile (F := F) c 8 (by decide) (steps.drop 6) (by decide)
  have mw9 := may_tile (F := F) c 9 (by decide) (steps.drop 6) (by decide)
  set_option sl_exec.dmaWindow true in
    sl_exec
  clear mw8 mw9
  have h3 : (sM 1).view.read (Elt F) (sound_body.sl.Hs1_w16_1 x y c fs3) = partialOf (x c) (y c) c := by
    refine Filled.full ?_
    iterate 16 refine Filled.tile (off_phase3 c) (by decide) ?_
    exact Filled.zero _ _ _
  ihave HO := (owes_some c _ _) $$ HO
  icases HO with ⟨%W6, HO⟩
  iapply (step_wait x y K 7 (steps.drop 6) (by decide) _ (wpE_waitDma2_eq (dst := rM 0) 𝒱₀ (c : Thread nD τ) none Set.univ)) $$ [P7 C7 HO]
  · isplitr; · iexact HR
    isplitr; · iexact Hlev
    isplitl [P7]; · iexact P7
    isplitl [C7]; · iexact C7
    iexact HO
  iintro ⟨HO, P7, Hp⟩
  ihave Hp := (Entails.of_eq (rest_at x y c 7 (by decide))) $$ Hp
  ihave Hp := (show handed x y c false 7 ⊢ (owns (c : Thread nD τ) (rM 0) fullShare (acc2 x y (prv c)) : sProp 𝕄) from .rfl) $$ Hp
  unfold owns
  icases Hp with ⟨%g2, %hg2, Hr0⟩
  sl_exec
  -- the third send has left
  iapply (step_wait x y K 4 (steps.drop 6) (by decide) _ (wpE_waitDma2_eq (dst := sM 0) 𝒱₀ (c : Thread nD τ) none Set.univ)) $$ [P4 C4 HO]
  · isplitr; · iexact HR
    isplitr; · iexact Hlev
    isplitl [P4]; · iexact P4
    isplitl [C4]; · iexact C4
    iexact HO
  iintro ⟨HO, P4, Hp⟩
  ihave Hp := (Entails.of_eq (rest_at x y c 4 (by decide))) $$ Hp
  ihave Hp := (show handed x y c false 4 ⊢ (owns (c : Thread nD τ) (sM 0) fullShare (acc2 x y c) : sProp 𝕄) from .rfl) $$ Hp
  unfold owns
  icases Hp with ⟨%fs4, -, Hs0⟩
  sl_exec
  rw [wp_ret]
  imod (step_close x y K c 0) $$ [P0] with Z0
  · isplitr; · iexact HR
    iexact P0
  imod (step_close x y K c 1) $$ [P1] with Z1
  · isplitr; · iexact HR
    iexact P1
  imod (step_close x y K c 2) $$ [P2] with Z2
  · isplitr; · iexact HR
    iexact P2
  imod (step_close x y K c 3) $$ [P3] with Z3
  · isplitr; · iexact HR
    iexact P3
  imod (step_close x y K c 4) $$ [P4] with Z4
  · isplitr; · iexact HR
    iexact P4
  imod (step_close x y K c 5) $$ [P5] with Z5
  · isplitr; · iexact HR
    iexact P5
  imod (step_close x y K c 6) $$ [P6] with Z6
  · isplitr; · iexact HR
    iexact P6
  imod (step_close x y K c 7) $$ [P7] with Z7
  · isplitr; · iexact HR
    iexact P7
  imodintro
  iapply Hk
  isplitl [Z0 Z1 Z2 Z3 Z4 Z5 Z6 Z7]
  · unfold cellsZero
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [Hq0 Hq1]
  · isplitl [Hq0]; · iexact Hq0
    iexact Hq1
  isplitl [Hy]; · iexact Hy
  isplitl [Hs0 Hs1 Hr0 Hr1 Hd0 Hd1]
  · isplitl [Hs0 Hs1]
    · isplitl [Hs0]; · iexists _; iexact Hs0
      iexists _; iexact Hs1
    isplitl [Hr0 Hr1]
    · isplitl [Hr0]; · iexists _; iexact Hr0
      iexists _; iexact Hr1
    isplitl [Hd0]; · iexists _; iexact Hd0
    iexists _; iexact Hd1
  isplitl [HO]; · iexists _; iexact HO
  isplitl [Hx]; · iexact Hx
  rw [outOf, ← out_written fo h3 hg2 (h := inb_S512x8192_S512x8192_0_0) (h' := inb_S2x512x8192_S1x512x8192_1_0_0)
    (h'' := inb_S2x512x8192_S1x512x8192_0_0_0)]
  iexact Ho

end Cert.Ring
end
-- ==== Proof.Launch.lean ====
/-
The launch and the run: the ghost state is made and dealt to the devices, the counters become the cells of the ring, and
every device starts from what `sound_body` asks. The run of the whole program then ends, with each device's result as
`outOf` says, both arguments as they were and every counter at zero.
-/
module

public import proofs.«01_k».proof.Proof.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The operands, and what the pipeline does around the body -/

/-- Device `c`'s block of the left operand, as the pipeline brings it in. -/
def xOf (c : Dev nD) : XBlk F := (win0_0.blk t0_0).view.read (Elt F) (m ((c : Thread nD τ).loc main_arg0))
/-- Its block of the right operand, which stays where it is. -/
def yOf (c : Dev nD) : YBlk F := m ((c : Thread nD τ).loc main_arg1)
/-- Its result. -/
abbrev zOf (c : Dev nD) : Wide F := outOf (xOf m) (yOf m) c

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => zOf m c
  Φ t := match t with
    | ⟨0, _⟩ => Φ₀ (xOf m) (yOf m) c
    | ⟨_ + 1, _⟩ => Φ₁ (yOf m) c
  q _ := fullShare
  owed t := match t with
    | ⟨0, _⟩ => due c steps
    | ⟨_ + 1, _⟩ => 0

/-- A whole staging buffer of device `c` at known contents. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

theorem windows_eq (Φ : Fin cfg0.W → sProp 𝕄) : bigSep Finset.univ Φ = iprop(Φ (0 : Fin 2) ∗ Φ (1 : Fin 2)) := bigSep_W0 Φ

/-- What the pipeline hands the body, and what it takes back. -/
def bodyPre (c : Dev nD) : sProp 𝕄 :=
  iprop(Φ₀ (xOf m) (yOf m) c ∗ (dats m 0 c).owesAt () t0_0.castSucc
    ∗ (∃ d, held c cc0_stg0_0 ((dats m 0 c).before (0 : Fin 2) t0_0 d)) ∗ (∃ d, held c cc0_stg1_0 ((dats m 0 c).before (1 : Fin 2) t0_0 d)))
def bodyPost (c : Dev nD) : sProp 𝕄 :=
  iprop(Φ₁ (yOf m) c ∗ (dats m 0 c).owesAt () t0_0.succ ∗ held c cc0_stg0_0 (xOf m c) ∗ held c cc0_stg1_0 (zOf m c))

set_option maxRecDepth 65536 in
theorem body_obligation (c : Dev nD) : BodyObligation (dats (F := F) m 0 c) (defs₀ (F := F)) 𝒱₀ () Set.univ := fun t => by
  rw [fin_N0 t, windows_eq, windows_eq]
  simp only [owns_held]
  show bodyPre m c ⊢ wp frame (wpE (defs₀ (F := F)) 𝒱₀ (c : Thread nD τ) none) Set.univ (bodyAt0 (F := F) t0_0) (fun _ => bodyPost m c)
  unfold bodyPre Φ₀ start
  iintro ⟨⟨⟨⟨%K, #HR⟩, Hp, Hr, Hc, #Hl⟩, Hq, Hy, Hs⟩, Ho, ⟨%d0, %fx, %hx, Hx⟩, ⟨%d1, %fo, -, Hf⟩⟩
  unfold Dat.owesAt Pipeline.owesWithin
  icases Ho with ⟨%W, -, HO⟩
  obtain rfl : fx = xOf m c := hx
  iapply (sound_body (xOf m) (yOf m) c K W fo fun _ => bodyPost m c)
  isplitr; · iexact HR
  isplitl [Hp]; · iexact Hp
  isplitl [Hr]; · iexact Hr
  isplitl [Hc]; · iexact Hc
  isplitr; · iexact Hl
  isplitl [Hq]; · iexact Hq
  isplitl [Hy]; · iexact Hy
  isplitl [Hs]; · iexact Hs
  isplitl [HO]; · iexact HO
  isplitl [Hx]; · iexact Hx
  isplitl [Hf]; · iexact Hf
  iintro ⟨Hz, Hq, Hy, Hs, ⟨%W', HO⟩, Hx, Hf⟩
  unfold bodyPost Φ₁ Dat.owesAt Pipeline.owesWithin
  rw [show (dats m 0 c).owed t0_0.succ = 0 from rfl]
  isplitl [Hz Hq Hy Hs]
  · isplitl [Hz]; · iexact Hz
    isplitl [Hq]; · iexact Hq
    isplitl [Hy]; · iexact Hy
    iexact Hs
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hf

/-! ## The semaphores -/

/-- The kernel's own semaphores: cells 1 to 7, and the two of the tile copies. -/
abbrev osem : Fin 9 → SemLoc sig := ![csem 1, csem 2, csem 3, csem 4, csem 5, csem 6, csem 7, .dma 8, .dma 9]
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cellAt c 1) 0 ∗ semVal (cellAt c 2) 0 ∗ semVal (cellAt c 3) 0 ∗ semVal (cellAt c 4) 0 ∗ semVal (cellAt c 5) 0
      ∗ semVal (cellAt c 6) 0 ∗ semVal (cellAt c 7) 0 ∗ semVal ((c : Thread nD τ), .dma 8) 0 ∗ semVal ((c : Thread nD τ), .dma 9) 0) := by
  rw [Pipeline.ownSems0_eq_of_list c osem [0, 1, 2, 3, 4, 5, 6, 7, 8] (by decide) (by decide)]; rfl
theorem unscopedSems0_eq (c : Dev nD) : (unscopedSems0 c : sProp 𝕄) = semVal (cellAt c 0) 0 := by
  unfold unscopedSems0; rw [bigSep_eq_bigSepL_of_eq [SemLoc.reg barS] (by decide) (by decide)]; rfl

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 8 => semVal (cellAt c k) 0) ∗ dyZero c) : sProp 𝕄) := by
  rw [ownSems0_eq, unscopedSems0_eq, eight]; unfold dyZero
  iintro ⟨⟨H1, H2, H3, H4, H5, H6, H7, H8, H9⟩, H0⟩
  isplitr [H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact H9

/-! ## The ghost state, made and dealt -/

theorem cellAt_inj : Function.Injective fun ck : Dev nD × Fin 8 => cellAt ck.1 ck.2 := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨_, cellAt_inj⟩

/-- The rights to raise a device's own cells: the second one of its barrier (`none`), and the `false` one of each cell. -/
abbrev rightOf (p : Dev nD × Option (Fin 8)) : GSem nD τ sig × ℕ × Bool := (cellAt p.1 (p.2.getD 0), 0, p.2.isNone)
theorem rightOf_inj : Function.Injective rightOf := by
  rintro ⟨c, o⟩ ⟨c', o'⟩ h
  have h1 := cellAt_inj (a₁ := (c, o.getD 0)) (a₂ := (c', o'.getD 0)) (congrArg Prod.fst h)
  have h2 : o.isNone = o'.isNone := congrArg (fun q => q.2.2) h
  obtain ⟨rfl, h3⟩ := Prod.mk.injEq .. ▸ h1
  match o, o', h2, h3 with
  | none, none, _, _ => rfl
  | some _, some _, _, h3 => exact congrArg (fun k => (c, some k)) h3
def allRights : Finset (GSem nD τ sig × ℕ × Bool) := Finset.univ.map ⟨rightOf, rightOf_inj⟩

def u₀ : UU := (initOf (Pipeline.cells cfgs cellOf_inj) (Pipeline.launchToks cfgs cellOf_inj), (initOf allCells allRights, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The rights to raise a device's own cells, as they are made: to be dealt to those who raise them. -/
def made (c : Dev nD) : sProp 𝕄 :=
  iprop(right c 0 true ∗ right c 0 false ∗ right c 1 false ∗ right c 2 false ∗ right c 3 false ∗ right c 4 false
    ∗ right c 5 false ∗ right c 6 false ∗ right c 7 false)

variable (x : Dev nD → XBlk F) (y : Dev nD → YBlk F)

/-- What the launch makes for device `c`, and what it has once the cells stand. -/
def G (c : Dev nD) : sProp 𝕄 :=
  iprop((bigSep Finset.univ fun k : Fin 8 => roundState ER (Rd x y) (cellAt c k) 0)
    ∗ (bigSep Finset.univ fun k : Fin 8 => iprop(place c k ∗ reached ER (cellAt c k) 0)) ∗ made c)
def G' (c : Dev nD) : sProp 𝕄 := iprop((∃ K, records x y K) ∗ places c ∗ rights c ∗ dyZero c)

theorem fund_ring : BI.own (ER (initOf allCells allRights)) ⊢ (|==> bigSep Finset.univ (G x y) : sProp 𝕄) := by
  have hX (Φ : GSem nD τ sig → sProp 𝕄) : bigSep allCells Φ = bigSep Finset.univ fun c : Dev nD => bigSep Finset.univ fun k : Fin 8 => Φ (cellAt c k) := by
    unfold allCells; rw [bigSep_map, bigSep_univ_prod]; rfl
  have hT : bigSep allRights (fun t => (dutyTok ER t.1 t.2.1 t.2.2 : sProp 𝕄)) = bigSep Finset.univ fun c : Dev nD => made c := by
    unfold allRights; rw [bigSep_map, bigSep_univ_prod]
    exact bigSep_congr fun c _ => by
      rw [bigSep_univ_eq_bigSepL [none, some 0, some 1, some 2, some 3, some 4, some 5, some 6, some 7] (by decide) (by decide)]; rfl
  iintro HX
  imod (Rounds.fund ER (Rd x y) allCells allRights) $$ HX with ⟨Hst, Hr, Hat, Htok⟩
  imodintro
  ihave Hst := (Entails.of_eq (hX fun g => roundState ER (Rd x y) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- Every cell of one device set up. -/
theorem cells_stand (c : Dev nD) :
    iprop(Pipeline.ownSems0 (Ix := Unit) (Name := ℕ) (U := UU) (Lvl := ℕ) (Val := Elt F) (τ := τ) osem c ∗ unscopedSems0 c ∗ G x y c)
      ⊢ |={Set.univ}=> iprop((bigSep Finset.univ fun k => iprop(∃ κ : ℕ, cellInv ER (Rd x y) κ (cellAt c k)))
          ∗ (bigSep Finset.univ fun k => iprop(place c k ∗ reached ER (cellAt c k) 0)) ∗ made c ∗ dyZero c) := by
  unfold G
  iintro ⟨Hos, Hus, Hst, Hat, Htok⟩
  ihave Hv := (sems_in (F := F) c) $$ [Hos Hus]
  · isplitl [Hos] <;> iassumption
  icases Hv with ⟨Hv, Hq⟩
  imod (show iprop((bigSep Finset.univ fun k : Fin 8 => semVal (cellAt c k) 0) ∗ bigSep Finset.univ fun k : Fin 8 => roundState ER (Rd x y) (cellAt c k) 0)
      ⊢ (|={Set.univ}=> bigSep Finset.univ fun k => iprop(∃ κ : ℕ, cellInv ER (Rd x y) κ (cellAt c k)) : sProp 𝕄) from by
        rw [← bigSep_sep']
        exact (bigSep_mono fun k _ => (Rounds.body_intro ER (Rd x y) (cellAt c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hq

/-- One kind of right passed along the ring: each device gets that of the device `σ` names. -/
theorem passed_on (σ : Dev nD ≃ Dev nD) (Φ : Dev nD → sProp 𝕄) : bigSep Finset.univ Φ ⊢ bigSep Finset.univ fun c => Φ (σ c) :=
  Entails.of_eq (bigSep_univ_equiv σ Φ)

theorem dealt : (bigSep Finset.univ fun c : Dev nD => (made c : sProp 𝕄)) ⊢ bigSep Finset.univ fun c : Dev nD => rights c := by
  unfold made rights
  simp only [bigSep_sep']
  iintro ⟨H0, H1, H2, H3, H4, H5, H6, H7, H8⟩
  isplitl [H0]; · iapply (passed_on ring.symm (fun c => right (F := F) c 0 true)); iexact H0
  isplitl [H1]; · iapply (passed_on ring (fun c => right (F := F) c 0 false)); iexact H1
  isplitl [H2]; · iapply (passed_on ring.symm (fun c => right (F := F) c 1 false)); iexact H2
  isplitl [H3]; · iexact H3
  isplitl [H4]; · iexact H4
  isplitl [H5]; · iexact H5
  isplitl [H6]; · iapply (passed_on ring (fun c => right (F := F) c 5 false)); iexact H6
  isplitl [H7]; · iapply (passed_on ring (fun c => right (F := F) c 6 false)); iexact H7
  iapply (passed_on ring (fun c => right (F := F) c 7 false)); iexact H8

theorem G'_intro (K : Dev nD × Fin 8 → ℕ) (c : Dev nD) :
    iprop(records x y K ∗ (bigSep Finset.univ fun k : Fin 8 => place c k) ∗ rights c ∗ dyZero c) ⊢ G' x y c := by
  rw [eight]; unfold G' places
  iintro ⟨#HR, Hp, Hr, Hq⟩
  isplitr; · iexists K; iexact HR
  isplitl [Hp]; · iexact Hp
  isplitl [Hr]; · iexact Hr
  iexact Hq

/-- What every device knows may be used at each device. -/
theorem with_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd x y) κ (cellAt c k)))
          ∗ (bigSep Finset.univ fun k => iprop(place c k ∗ reached ER (cellAt c k) 0)) ∗ made c ∗ dyZero c) : sProp 𝕄)
      ⊢ bigSep Finset.univ (G' x y) := by
  simp only [bigSep_sep']
  rw [← bigSep_univ_prod (fun ck : Dev nD × Fin 8 => iprop(∃ κ : ℕ, cellInv ER (Rd x y) κ (cellAt ck.1 ck.2))),
    ← bigSep_univ_prod (fun ck : Dev nD × Fin 8 => (reached ER (cellAt ck.1 ck.2) 0 : sProp 𝕄))]
  iintro ⟨HI, ⟨Hat, #HR⟩, Hm, Hq⟩
  ihave HK := (BI.bigSep_exists_pi Finset.univ (fun (ck : Dev nD × Fin 8) (κ : ℕ) => (cellInv ER (Rd x y) κ (cellAt ck.1 ck.2) : sProp 𝕄))) $$ HI
  icases HK with ⟨%K, #HI⟩
  ihave Hm := (dealt (F := F)) $$ Hm
  iapply (with_each (R := records x y K) fun c => G'_intro x y K c)
  isplitr
  · unfold records; rw [bigSep_sep']
    isplitl; · iexact HI
    iexact HR
  simp only [bigSep_sep']
  isplitl [Hat]; · iexact Hat
  isplitl [Hm]; · iexact Hm
  iexact Hq

theorem glob : (bigSep Finset.univ fun c => iprop(Pipeline.ownSems0 (Ix := Unit) (Name := ℕ) (U := UU) (Lvl := ℕ) (Val := Elt F) (τ := τ) osem c
      ∗ unscopedSems0 c ∗ G x y c) : sProp 𝕄)
    ⊢ |={Set.univ}=> bigSep Finset.univ (G' x y) :=
  ((bigSep_mono fun c _ => cells_stand x y c).trans (bigSep_fupd _ _)).trans (BI.fupd_mono (regroup x y))

/-! ## The credit of the launch -/

theorem peer_eq_iff {d c : Dev nD} {b : Bool} : peer d b = c ↔ d = peer c (!b) := by
  cases b
  · exact ⟨fun h => h ▸ (nxt_prv d).symm, fun h => h ▸ prv_nxt c⟩
  · exact ⟨fun h => h ▸ (prv_nxt d).symm, fun h => h ▸ nxt_prv c⟩

/-- One raise, as it counts at one cell. -/
theorem raise_at (d c : Dev nD) (b : Bool) (j k : Fin 8) :
    tallyAt (cellAt (peer d b) j) () (units j) (cellAt c k) () = if d = peer c (!b) then (if j = k then units k else 0) else 0 := by
  rw [tallyAt_apply]
  by_cases hd : d = peer c (!b)
  · rw [if_pos hd]
    by_cases hk : j = k
    · rw [if_pos hk, if_pos ⟨by rw [hk, peer_eq_iff.mpr hd], rfl⟩, hk]
    · rw [if_neg hk, if_neg fun e => hk (csem_inj (congrArg Prod.snd e.1)).symm]
  · rw [if_neg hd, if_neg fun e => hd (peer_eq_iff.mp (congrArg (fun g : GSem nD τ sig => g.1.1) e.1).symm)]

/-- What all devices together owe one cell: the units of each listed raise of such a cell. -/
theorem due_sum (c : Dev nD) (k : Fin 8) : ∀ l : List (Bool × Fin 8),
    ∑ d, due d l (cellAt c k) () = (l.map fun p => if p.2 = k then units k else 0).sum
  | [] => Finset.sum_const_zero
  | p :: l => by
    have h (d : Dev nD) : due d (p :: l) (cellAt c k) () = due d l (cellAt c k) () + if d = peer c (!p.1) then (if p.2 = k then units k else 0) else 0 := by
      rw [due, Pi.add_apply, Finsupp.add_apply, raise_at]
    rw [Finset.sum_congr rfl fun d _ => h d, Finset.sum_add_distrib, due_sum c k l, Finset.sum_ite_eq' Finset.univ (peer c (!p.1)), if_pos (Finset.mem_univ _),
      List.map_cons, List.sum_cons, Nat.add_comm]

theorem launch_at (c : Dev nD) (k : Fin 8) (n : ℕ) (hn : (steps.map fun p => if p.2 = k then units k else 0).sum = n) :
    tallyOn (cellAt c k) (launchCredit (Pipeline.owing fun c => due c steps) 0 (cellAt c k)) = (tallyAt (cellAt c k) () n : CellTallies nD τ sig Unit) := by
  unfold tallyAt; refine congrArg _ (Finsupp.ext fun u => ?_); cases u
  rw [Pipeline.launchCredit_owing, Finsupp.single_eq_same, due_sum, hn]

theorem credits_in (c : Dev nD) : (Pipeline.launchCred (fun c => due c steps) c : sProp 𝕄) ⊢ credits c := by
  have h : (Pipeline.launchCred (fun c => due c steps) c : sProp 𝕄)
      ⊢ bigSep Finset.univ fun k : Fin 8 => cred (tallyOn (cellAt c k) (launchCredit (Pipeline.owing fun c => due c steps) 0 (cellAt c k))) := by
    unfold Pipeline.launchCred
    exact (BI.bigSep_subset (Finset.subset_univ ((Finset.univ : Finset (Fin 8)).map ⟨csem, csem_inj⟩))).trans (Entails.of_eq (bigSep_map _))
  rw [eight, launch_at c 0 2 rfl, launch_at c 1 1 rfl, launch_at c 5 N rfl, launch_at c 6 N rfl, launch_at c 7 N rfl] at h
  unfold credits
  iintro H
  ihave H := h $$ H
  icases H with ⟨H0, H1, -, -, -, H5, H6, H7⟩
  isplitl [H0]; · iexact H0
  isplitl [H1]; · iexact H1
  isplitl [H5]; · iexact H5
  isplitl [H6]; · iexact H6
  iexact H7

end Cert.Ring

end
-- ==== Proof.Run.lean ====
/-
The run of the whole program: what a device holds before and after the kernel, split into and joined from what the
launch deals, and the theorem that every run ends, with each result as `outOf` says, both arguments as they were and
every counter at zero.
-/
module

public import proofs.«01_k».proof.Proof.Launch
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The two slots of each scratch buffer -/

/-- The places of slot `d` of a buffer of result blocks, and of the tile buffer. -/
def inSlots (d : Fin 2) : Finset S2x512x8192.Idx := (Rect.unit (s := S2x512x8192) ![d.val, 0, 0] S1x512x8192.size (inb_slot d)).set
def inTiles (d : Fin 2) : Finset S2x2048x512.Idx := (Rect.unit (s := S2x2048x512) ![d.val, 0, 0] S1x2048x512.size (inb_tile d)).set

theorem inSlots_disjoint (d d' : Fin 2) (h : d ≠ d') : Disjoint (inSlots d) (inSlots d') :=
  Ring.lead_disjoint (s := S2x512x8192) (0 : Fin 3) 1 (fun d : Fin 2 => (![d.val, 0, 0] : Fin 3 → Nat)) S1x512x8192.size inb_slot
    (fun d => by simp) rfl d d' h
theorem inSlots_cover : Finset.univ.biUnion inSlots = Finset.univ :=
  Ring.lead_cover (s := S2x512x8192) (0 : Fin 3) 1 (fun d : Fin 2 => (![d.val, 0, 0] : Fin 3 → Nat)) S1x512x8192.size inb_slot
    (fun d => by simp) (fun d => by decide +revert) rfl (by decide) rfl
theorem inTiles_disjoint (d d' : Fin 2) (h : d ≠ d') : Disjoint (inTiles d) (inTiles d') :=
  Ring.lead_disjoint (s := S2x2048x512) (0 : Fin 3) 1 (fun d : Fin 2 => (![d.val, 0, 0] : Fin 3 → Nat)) S1x2048x512.size inb_tile
    (fun d => by simp) rfl d d' h
theorem inTiles_cover : Finset.univ.biUnion inTiles = Finset.univ :=
  Ring.lead_cover (s := S2x2048x512) (0 : Fin 3) 1 (fun d : Fin 2 => (![d.val, 0, 0] : Fin 3 → Nat)) S1x2048x512.size inb_tile
    (fun d => by simp) (fun d => by decide +revert) rfl (by decide) rfl

theorem sM_set (d : Fin 2) : (sM d).view.set = inSlots d := (View.set_reshape _ _).trans (View.set_slice_whole _ _)
theorem rM_set (d : Fin 2) : (rM d).view.set = inSlots d := (View.set_reshape _ _).trans (View.set_slice_whole _ _)
theorem dM_set (d : Fin 2) : (dM d).view.set = inTiles d := (View.set_reshape _ _).trans (View.set_slice_whole _ _)

/-- A whole scratch buffer, at contents not said. -/
abbrev some_held (c : Dev nD) (b : Ref sig .tc) : sProp 𝕄 := iprop(∃ f : Buf (Elt F) ((c : Thread nD τ).loc b), ((c : Thread nD τ).loc b) ↦{fullShare} f)

theorem s_split (c : Dev nD) : some_held (F := F) c cc0_scratch0 ⊢ iprop(free c (sM 0) ∗ free c (sM 1)) :=
  Ring.slots2_split (ℓ := (c : Thread nD τ).loc cc0_scratch0) (q := fullShare) inSlots inSlots_disjoint inSlots_cover _ _
    (fun f => congrArg (fun I => ((c : Thread nD τ).loc cc0_scratch0 ↦[I]{fullShare} f : sProp 𝕄)) (sM_set 0))
    (fun f => congrArg (fun I => ((c : Thread nD τ).loc cc0_scratch0 ↦[I]{fullShare} f : sProp 𝕄)) (sM_set 1))
theorem s_join (c : Dev nD) : iprop(free c (sM 0) ∗ free c (sM 1)) ⊢ some_held (F := F) c cc0_scratch0 :=
  Ring.slots2_join (ℓ := (c : Thread nD τ).loc cc0_scratch0) (q := fullShare) inSlots inSlots_disjoint inSlots_cover _ _
    (fun f => congrArg (fun I => ((c : Thread nD τ).loc cc0_scratch0 ↦[I]{fullShare} f : sProp 𝕄)) (sM_set 0))
    (fun f => congrArg (fun I => ((c : Thread nD τ).loc cc0_scratch0 ↦[I]{fullShare} f : sProp 𝕄)) (sM_set 1))
theorem r_split (c : Dev nD) : some_held (F := F) c cc0_scratch1 ⊢ iprop(free c (rM 0) ∗ free c (rM 1)) :=
  Ring.slots2_split (ℓ := (c : Thread nD τ).loc cc0_scratch1) (q := fullShare) inSlots inSlots_disjoint inSlots_cover _ _
    (fun f => congrArg (fun I => ((c : Thread nD τ).loc cc0_scratch1 ↦[I]{fullShare} f : sProp 𝕄)) (rM_set 0))
    (fun f => congrArg (fun I => ((c : Thread nD τ).loc cc0_scratch1 ↦[I]{fullShare} f : sProp 𝕄)) (rM_set 1))
theorem r_join (c : Dev nD) : iprop(free c (rM 0) ∗ free c (rM 1)) ⊢ some_held (F := F) c cc0_scratch1 :=
  Ring.slots2_join (ℓ := (c : Thread nD τ).loc cc0_scratch1) (q := fullShare) inSlots inSlots_disjoint inSlots_cover _ _
    (fun f => congrArg (fun I => ((c : Thread nD τ).loc cc0_scratch1 ↦[I]{fullShare} f : sProp 𝕄)) (rM_set 0))
    (fun f => congrArg (fun I => ((c : Thread nD τ).loc cc0_scratch1 ↦[I]{fullShare} f : sProp 𝕄)) (rM_set 1))
theorem d_split (c : Dev nD) : some_held (F := F) c cc0_scratch2 ⊢ iprop(free c (dM 0) ∗ free c (dM 1)) :=
  Ring.slots2_split (ℓ := (c : Thread nD τ).loc cc0_scratch2) (q := fullShare) inTiles inTiles_disjoint inTiles_cover _ _
    (fun f => congrArg (fun I => ((c : Thread nD τ).loc cc0_scratch2 ↦[I]{fullShare} f : sProp 𝕄)) (dM_set 0))
    (fun f => congrArg (fun I => ((c : Thread nD τ).loc cc0_scratch2 ↦[I]{fullShare} f : sProp 𝕄)) (dM_set 1))
theorem d_join (c : Dev nD) : iprop(free c (dM 0) ∗ free c (dM 1)) ⊢ some_held (F := F) c cc0_scratch2 :=
  Ring.slots2_join (ℓ := (c : Thread nD τ).loc cc0_scratch2) (q := fullShare) inTiles inTiles_disjoint inTiles_cover _ _
    (fun f => congrArg (fun I => ((c : Thread nD τ).loc cc0_scratch2 ↦[I]{fullShare} f : sProp 𝕄)) (dM_set 0))
    (fun f => congrArg (fun I => ((c : Thread nD τ).loc cc0_scratch2 ↦[I]{fullShare} f : sProp 𝕄)) (dM_set 1))

theorem slots_split (c : Dev nD) : (Pipeline.scopedRest cfg0.spec c : sProp 𝕄) ⊢ slots c := by
  rw [show (Pipeline.scopedRest cfg0.spec c : sProp 𝕄)
    = iprop(some_held c cc0_scratch0 ∗ some_held c cc0_scratch1 ∗ some_held c cc0_scratch2) from scopedRest0_eq c]
  exact BIClass.sep_mono (s_split c) (BIClass.sep_mono (r_split c) (d_split c))
theorem slots_join (c : Dev nD) : slots c ⊢ (Pipeline.scopedRest cfg0.spec c : sProp 𝕄) := by
  rw [show (Pipeline.scopedRest cfg0.spec c : sProp 𝕄)
    = iprop(some_held c cc0_scratch0 ∗ some_held c cc0_scratch1 ∗ some_held c cc0_scratch2) from scopedRest0_eq c]
  exact BIClass.sep_mono (s_join c) (BIClass.sep_mono (r_join c) (d_join c))

/-! ## Into the kernel and out of it -/

/-- What a device brings to the kernel besides its scratch, and what it takes away. -/
def brings (c : Dev nD) : sProp 𝕄 := iprop(start (xOf m) (yOf m) c ∗ dyZero c ∗ yHeld (yOf m) c)
def takes (c : Dev nD) : sProp 𝕄 := iprop(unscopedSems0 c ∗ yHeld (yOf m) c)

theorem brings_intro (c : Dev nD) :
    iprop(Pipeline.unscopedRestP Pipeline.Prefetch.none cfg0.spec c (fun b => m ((c : Thread nD τ).loc b)) ∗ levAts L lv
        ∗ Pipeline.launchCred (fun c => due c steps) c ∗ prngReg c (ρ c) ∗ G' (xOf m) (yOf m) c)
      ⊢ |={Set.univ}=> iprop(brings m c ∗ emp) := by
  rw [Pipeline.unscopedRestP_none, show (Pipeline.unscopedRest cfg0.spec c (fun b => m ((c : Thread nD τ).loc b)) : sProp 𝕄)
    = yHeld (yOf m) c from unscopedRest0_eq c _]
  unfold brings start G'
  iintro ⟨Hy, Hl, Hc, -, HK, Hp, Hr, Hq⟩
  ihave Hc := (credits_in (F := F) c) $$ Hc
  imodintro
  isplitl
  · isplitl [HK Hp Hr Hc Hl]
    · isplitl [HK]; · iexact HK
      isplitl [Hp]; · iexact Hp
      isplitl [Hr]; · iexact Hr
      isplitl [Hc]; · iexact Hc
      iexact Hl
    isplitl [Hq]; · iexact Hq
    iexact Hy
  iempintro

theorem enter (c : Dev nD) :
    iprop(brings m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (xOf m) (yOf m) c from rfl]
  unfold Φ₀ brings
  iintro ⟨⟨Hs, Hq, Hy⟩, -, Hr⟩
  ihave Hr := (slots_split (F := F) c) $$ Hr
  isplitl [Hs]; · iexact Hs
  isplitl [Hq]; · iexact Hq
  isplitl [Hy]; · iexact Hy
  iexact Hr

theorem leave (c : Dev nD) :
    (dats m 0 c).Φ (Fin.last cfg0.N) ⊢ iprop(takes m c ∗ Pipeline.ownSems0 osem c ∗ Pipeline.scopedRest cfg0.spec c) := by
  rw [show (dats m 0 c).Φ (Fin.last cfg0.N) = Φ₁ (yOf m) c from rfl, ownSems0_eq]
  unfold Φ₁ takes cellsZero dyZero
  rw [unscopedSems0_eq]
  iintro ⟨⟨H0, H1, H2, H3, H4, H5, H6, H7⟩, ⟨H8, H9⟩, Hy, Hs⟩
  ihave Hs := (slots_join (F := F) c) $$ Hs
  isplitl [H0 Hy]
  · isplitl [H0]; · iexact H0
    iexact Hy
  isplitr [Hs]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hs

/-- The staging semaphores rank lowest: the pipeline may wait on them whatever the body owes. -/
theorem stage_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ steps (by fin_cases w <;> fin_cases s <;> decide)
    · exact mayWait c _ [] (fun p hp => absurd hp List.not_mem_nil)

/-- What is read of the final memory on device `c`, besides the windows' arrays. -/
def Left (c : Dev nD) (s : MemSt nD τ sig (Elt F)) : Prop :=
  s.mem ((c : Thread nD τ).loc main_arg1) = yOf m c ∧ ∀ q : SemLoc sig, q.isScoped .tc = false → s.sem ((c : Thread nD τ), q) = 0

theorem read_out (c : Dev nD) (s' : Phys nD τ sig (Elt F)) :
    iprop(takes m c ∗ emp ∗ SI s') ⊢ (|={Set.univ}=> iprop(⌜Left m c s'.mem⌝ ∗ SI s') : sProp 𝕄) := by
  unfold takes yHeld
  iintro ⟨⟨Hu, Hy⟩, -, HSI⟩
  ihave Hr := (Pipeline.unscopedSems0_read (X := unscopedSems0 c) (c := c) fupd_intro s') $$ [Hu HSI]
  · isplitl [Hu] <;> iassumption
  imod Hr with ⟨%hz, HSI⟩
  icombine HSI Hy gives %hy
  imodintro
  isplitr; · ipureintro; exact ⟨Buf.eq_of_forall_mem_univ hy, hz⟩
  iexact HSI

/-! ## The run -/

/-- Each window's array after the run, and the argument that no window brings in. -/
def Ends : PUnit × MemSt nD τ sig (Elt F) → Prop := fun r =>
  ∀ c : Dev nD, (∀ w, r.2.mem ((cfg0.win w).arr.view.loc (c : Thread nD τ)) = (dats m 0 c).arrAt w cfg0.N)
    ∧ r.2.mem ((c : Thread nD τ).loc main_arg1) = yOf m c

set_option maxRecDepth 65536 in
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0)
    (hshare := fun c w => by unfold Dat.share; split <;> rfl)
    (hdistinct := winFacts0.arr_inj)
    (O₀ := fun c => due c steps) (howed₀ := fun _ => rfl) (howedN := fun _ => rfl)
    (L := L) (lv := lv) (hL := L_of_ne) (hwaits := stage_waits m)
    (G := G (xOf m) (yOf m)) (G' := G' (xOf m) (yOf m)) (u₀ := u₀)
    (hu₀ := by
      unfold u₀
      iintro Hu
      ihave H := (ownU_split _ _) $$ Hu
      icases H with ⟨HP, HX⟩
      imod (fund_ring (xOf m) (yOf m)) $$ HX with HG
      imodintro
      isplitl [HP] <;> iassumption)
    (hglob := glob (xOf m) (yOf m))
    (hA := fun _ _ => rfl) (hpf := fun _ k => k.elim0)
    (X := brings m) (Y := takes m) (Z := fun _ => iprop(emp))
    (hX := brings_intro m ρ) (hin := enter m) (hout := leave m)
    (QY := Left m) (hY := read_out m)
    (hQ := fun _ h hs => ⟨fun c => ⟨(h c).1, (h c).2.2.1⟩, sem_eq_zero hs fun c => (h c).2.2.2⟩)

/-- The left operand's array ends as it began; -/
theorem end_arg0 (c : Dev nD) : (dats m 0 c).arrAt (0 : Fin 2) cfg0.N = m ((c : Thread nD τ).loc main_arg0) :=
  (dats (F := F) m 0 c).arrAt_in (0 : Fin 2) rfl _

/-- the block of it that the body reads is the whole of it; -/
theorem xOf_eq (c : Dev nD) : xOf m c = m ((c : Thread nD τ).loc main_arg0) :=
  Memref.read_access_unit_zero (Elt F) main_arg0 (funext fun a => Nat.zero_mul _) _ _

/-- and the result's array ends holding what the body leaves. -/
theorem end_out (c : Dev nD) : (dats m 0 c).arrAt (1 : Fin 2) cfg0.N = zOf m c := by
  have h := (dats m 0 c).arrAt_succ (1 : Fin 2) t0_0
  rw [if_pos (flush0_1 _)] at h
  exact h.trans (Memref.write_access_unit_zero_univ (Elt F) main_v1 (funext fun a => Nat.zero_mul _) _ _ _)

end Cert.Ring

end
-- ==== Proof.Value.lean ====
/-
The value, over the extended reals, where a change of format changes nothing.

Each device's contribution to a block of the result is a sum over the 2048 rows that the device holds. The four
contributions to one block, added on the way round the ring, are the sum over all 8192 rows: the block of the
reference's product.
-/
module

public import proofs.«01_k».proof.Proof.Blocks
public import proofs.«01_k».proof.Proof.Gen.ReferenceIdeal
public import Idealize.ShloMosaic.Lib.Pointwise
public import Idealize.ShloMosaic.Lib.Layout

@[expose] public section

noncomputable section

namespace Cert.Ring

open Cert.KernelIdeal Cert.KernelIdeal.Gen
open Idealize.ShloMosaic Idealize.ShloMosaic.TcCoe

/-- The two operands whole, and the result whole, as extended reals. -/
abbrev XAll : Type := (⟨2, ![8192, 2048]⟩ : Shape).Idx → EReal
abbrev YAll : Type := (⟨2, ![8192, 8192]⟩ : Shape).Idx → EReal
abbrev OutAll : Type := (⟨2, ![2048, 8192]⟩ : Shape).Idx → EReal

/-! ## Rows by device -/

/-- Row `k` of the block of rows that the device at place `z` holds. -/
def rowOf (z : Fin 4) (k : Fin 2048) : Fin 8192 := ⟨2048 * z.val + k.val, by omega⟩
/-- Row `i` of the block of result rows that the device at place `z` keeps. -/
def keptRow (z : Fin 4) (i : Fin 512) : Fin 2048 := ⟨512 * z.val + i.val, by omega⟩
/-- The place of a device on its ring. -/
def seat (c : Dev nD) : Fin 4 := ⟨c.val % 4, Nat.mod_lt _ (by decide)⟩

/-- A sum over all rows is the sum, over the places, of the sums over the rows held there. -/
theorem sum_rows (f : Fin 8192 → EReal) : ∑ K, f K = ∑ z : Fin 4, ∑ k : Fin 2048, f (rowOf z k) := by
  rw [← Fintype.sum_prod_type']
  refine (Fintype.sum_equiv (finProdFinEquiv (m := 4) (n := 2048)) _ _ fun p => congrArg f (Fin.ext ?_)).symm
  show 2048 * p.1.val + p.2.val = p.2.val + 2048 * p.1.val
  exact Nat.add_comm _ _

/-- A sum over the places, taken from any device on, going back round its ring. -/
theorem sum_places (f : Fin 4 → EReal) (c : Dev nD) :
    f (seat c) + (f (seat (prv c)) + (f (seat (prv (prv c))) + f (seat (prv (prv (prv c)))))) = ∑ z, f z := by
  have h : ∀ c : Dev nD, (seat c, seat (prv c), seat (prv (prv c)), seat (prv (prv (prv c)))) ∈
      [((0 : Fin 4), (3 : Fin 4), (2 : Fin 4), (1 : Fin 4)), (1, 0, 3, 2), (2, 1, 0, 3), (3, 2, 1, 0)] := by decide
  have hc := h c
  generalize seat c = p0, seat (prv c) = p1, seat (prv (prv c)) = p2, seat (prv (prv (prv c))) = p3 at hc ⊢
  rw [Fin.sum_univ_four]
  simp only [List.mem_cons, Prod.mk.injEq, List.not_mem_nil, or_false] at hc
  rcases hc with ⟨rfl, rfl, rfl, rfl⟩ | ⟨rfl, rfl, rfl, rfl⟩ | ⟨rfl, rfl, rfl, rfl⟩ | ⟨rfl, rfl, rfl, rfl⟩ <;> abel

theorem prv4 (c : Dev nD) : prv (prv (prv (prv c))) = c := by revert c; decide

/-! ## The products -/

/-- One device's contribution at a place of a result block. -/
theorem partial_apply (x : XBlk Ideal) (y : YBlk Ideal) (d : Dev nD) (i : Fin 512) (j : Fin 8192) :
    (partialOf x y d (ix2 i j) : EReal) = ∑ k : Fin 2048, (x (ix2 k (keptRow (seat d) i)) : EReal) * y (ix2 k j) := by
  unfold partialOf
  rw [show inTile (ix2 i j) = ix3 (0 : Fin 1) i ⟨j.val % 512, Nat.mod_lt _ (by decide)⟩ from rfl]
  generalize hX : colsOf x d = X
  generalize hY : tileOf y (tileNo (ix2 i j)) = Y
  pointwise [k0_pay1, k0_pay2]
  subst hX hY
  refine Finset.sum_congr rfl fun k _ => ?_
  have hx : colsOf x d (ix2 k i) = x (ix2 k (keptRow (seat d) i)) := rfl
  have hy : tileOf y (tileNo (ix2 i j)) (ix3 0 k ⟨j.val % 512, Nat.mod_lt _ (by decide)⟩) = y (ix2 k j) :=
    congrArg (fun q : Fin 8192 => y (ix2 k q)) (Fin.ext (Nat.div_add_mod j.val 512))
  rw [hx, hy]

/-- The reference's product. -/
def product (X : XAll) (Y : YAll) : OutAll := fun o => ∑ K : Fin 8192, X (ix2 K (o 0)) * Y (ix2 K (o 1))

/-- What the ring leaves on device `c` is the sum over all the rows. -/
theorem out_apply (X : XAll) (Y : YAll) (x : Dev nD → XBlk Ideal) (y : Dev nD → YBlk Ideal)
    (hx : ∀ c k i, x c (ix2 k i) = X (ix2 (rowOf (seat c) k) i)) (hy : ∀ c k j, y c (ix2 k j) = Y (ix2 (rowOf (seat c) k) j))
    (c : Dev nD) (i : Fin 512) (j : Fin 8192) :
    (outOf x y c (ix2 i j) : EReal) = product X Y (ix2 (keptRow (seat c) i) j) := by
  have hp : ∀ d, (partialOf (x d) (y d) c (ix2 i j) : EReal)
      = ∑ k : Fin 2048, X (ix2 (rowOf (seat d) k) (keptRow (seat c) i)) * Y (ix2 (rowOf (seat d) k) j) := fun d => by
    rw [partial_apply]
    exact Finset.sum_congr rfl fun k _ => by rw [hx, hy]
  show (partialOf (x c) (y c) c (ix2 i j) : EReal)
    + ((partialOf (x (prv c)) (y (prv c)) (prv (prv (prv (prv c)))) (ix2 i j) : EReal)
      + ((partialOf (x (prv (prv c))) (y (prv (prv c))) (prv (prv (prv (prv c)))) (ix2 i j) : EReal)
        + (partialOf (x (prv (prv (prv c)))) (y (prv (prv (prv c)))) (prv (prv (prv (prv c)))) (ix2 i j) : EReal))) = _
  rw [prv4, hp, hp, hp, hp]
  exact (sum_places (fun z => ∑ k : Fin 2048, X (ix2 (rowOf z k) (keptRow (seat c) i)) * Y (ix2 (rowOf z k) j)) c).trans
    (sum_rows fun K => X (ix2 K (keptRow (seat c) i)) * Y (ix2 K j)).symm

/-- The reference's operations, its casts included, give the product. -/
theorem reference_eq (X : XAll) (Y : YAll) :
    (extf (F := Ideal) .f32 (truncf (F := Ideal) .bf16
      (Host.dotGeneral (F := Ideal) (φ₁ := .bf16) (φ₂ := .bf16) Cert.ReferenceIdeal.dot_S2048x8192_S8192x8192_S2048x8192_1_0_0_1_n_n none
        (transpose Cert.ReferenceIdeal.S2048x8192 [1, 0] X Cert.ReferenceIdeal.Gen.transposes_S8192x2048_S2048x8192_1_0) Y)
      Cert.ReferenceIdeal.Gen.bitsLt_bf16_f32) Cert.ReferenceIdeal.Gen.bitsLt_bf16_f32 : OutAll) = product X Y := by
  funext o
  unfold product
  pointwise

/-! ## The cut of the whole arrays among the devices -/

/-- A device's rows of a whole array whose rows are cut along the mesh's last axis. -/
theorem rows_val (c : Dev nD) : ((Layout.meshBlock [2, 4, 4] ![[2], []] c) (0 : Fin 2)).val = (seat c).val := by
  revert c; decide
theorem cols_val (c : Dev nD) : ((Layout.meshBlock [2, 4, 4] ![[2], []] c) (1 : Fin 2)).val = 0 := by
  revert c; decide

theorem x_block (X : XAll) (c : Dev nD) (k : Fin 2048) (i : Fin 2048) :
    Layout.blockN ⟨2, ![2048, 2048]⟩ ⟨2, ![8192, 2048]⟩ (Layout.meshBlock [2, 4, 4] ![[2], []] c) X (by decide) (ix2 k i)
      = X (ix2 (rowOf (seat c) k) i) := by
  rw [Layout.blockN_apply]
  refine congrArg X (funext fun a => Fin.ext ?_)
  match a with
  | ⟨0, _⟩ => exact congrArg (· * 2048 + k.val) (rows_val c) |>.trans (by show _ * 2048 + _ = 2048 * _ + _; omega)
  | ⟨1, _⟩ => exact congrArg (· * 2048 + i.val) (cols_val c) |>.trans (by simp)

theorem y_block (Y : YAll) (c : Dev nD) (k : Fin 2048) (j : Fin 8192) :
    Layout.blockN ⟨2, ![2048, 8192]⟩ ⟨2, ![8192, 8192]⟩ (Layout.meshBlock [2, 4, 4] ![[2], []] c) Y (by decide) (ix2 k j)
      = Y (ix2 (rowOf (seat c) k) j) := by
  rw [Layout.blockN_apply]
  refine congrArg Y (funext fun a => Fin.ext ?_)
  match a with
  | ⟨0, _⟩ => exact congrArg (· * 2048 + k.val) (rows_val c) |>.trans (by show _ * 2048 + _ = 2048 * _ + _; omega)
  | ⟨1, _⟩ => exact congrArg (· * 8192 + j.val) (cols_val c) |>.trans (by simp)

theorem out_block (Z : OutAll) (c : Dev nD) (i : Fin 512) (j : Fin 8192) :
    Layout.blockN ⟨2, ![512, 8192]⟩ ⟨2, ![2048, 8192]⟩ (Layout.meshBlock [2, 4, 4] ![[2], []] c) Z (by decide) (ix2 i j)
      = Z (ix2 (keptRow (seat c) i) j) := by
  rw [Layout.blockN_apply]
  refine congrArg Z (funext fun a => Fin.ext ?_)
  match a with
  | ⟨0, _⟩ => exact congrArg (· * 512 + i.val) (rows_val c) |>.trans (by show _ * 512 + _ = 512 * _ + _; omega)
  | ⟨1, _⟩ => exact congrArg (· * 8192 + j.val) (cols_val c) |>.trans (by simp)

/-- Where the devices hold the blocks of two arrays, the ring leaves on each its block of the product. -/
theorem out_eq (X : XAll) (Y : YAll) (x : Dev nD → XBlk Ideal) (y : Dev nD → YBlk Ideal)
    (hx : ∀ c, x c = Layout.blockN ⟨2, ![2048, 2048]⟩ ⟨2, ![8192, 2048]⟩ (Layout.meshBlock [2, 4, 4] ![[2], []] c) X (by decide))
    (hy : ∀ c, y c = Layout.blockN ⟨2, ![2048, 8192]⟩ ⟨2, ![8192, 8192]⟩ (Layout.meshBlock [2, 4, 4] ![[2], []] c) Y (by decide))
    (c : Dev nD) :
    outOf x y c = Layout.blockN ⟨2, ![512, 8192]⟩ ⟨2, ![2048, 8192]⟩ (Layout.meshBlock [2, 4, 4] ![[2], []] c) (product X Y) (by decide) := by
  funext o
  obtain ⟨i, j, rfl⟩ : ∃ (i : Fin 512) (j : Fin 8192), o = ix2 i j := ⟨o 0, o 1, eq_ix2 o⟩
  refine (out_apply X Y x y (fun c k i => ?_) (fun c k j => ?_) c i j).trans (out_block (product X Y) c i j).symm
  · rw [hx]; exact x_block X c k i
  · rw [hy]; exact y_block Y c k j

end Cert.Ring

end
-- ==== Proof.lean ====
/-
The proof of `Cert.Claim`: the program's run, read at the two float values it is stated over, the reference's run, and
the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- Over any float, the run leaves each device's result as `outOf` says, both arguments as they were, and every counter
    at zero. -/
theorem run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1)
            = Cert.Ring.outOf (fun c => m ((c.tc : Thread Cert.KernelIdeal.nD Cert.KernelIdeal.τ).loc Cert.KernelIdeal.main_arg0))
                (fun c => m ((c.tc : Thread Cert.KernelIdeal.nD Cert.KernelIdeal.τ).loc Cert.KernelIdeal.main_arg1)) c
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) := by
  have hx : Cert.Ring.xOf m = fun c : Dev Cert.KernelIdeal.nD => m ((c.tc : Thread Cert.KernelIdeal.nD Cert.KernelIdeal.τ).loc Cert.KernelIdeal.main_arg0) :=
    funext (Cert.Ring.xOf_eq m)
  refine (θ_run Cert.KernelIdeal.defs _ _).mono (fun _ h => ⟨fun c => ⟨?_, ?_, (h.1 c).2⟩, h.2⟩) (Cert.Ring.run_main m ρ)
  · rw [← hx]
    exact ((h.1 c).1 (1 : Fin 2)).trans (Cert.Ring.end_out m c)
  · exact ((h.1 c).1 (0 : Fin 2)).trans (Cert.Ring.end_arg0 m c)

/-- Of that run, the arguments and the counters alone. -/
theorem kept {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run m ρ)

/-- The two programs have one text: their kernels are one function, -/
theorem bodies_eq {F : FTy → Type} [FloatOps F] : Cert.Kernel.defs₀ (F := F) = Cert.KernelIdeal.defs₀ :=
  congrArg Defs.onTc (funext fun l => funext fun a => match l, a with
    | 0, (_, _) => rfl
    | ⟨_ + 1, h⟩, _ => absurd h (Nat.not_lt.2 (Nat.le_add_left _ _)))
/-- and so are the tables that @main calls into. -/
theorem tables_eq {F : FTy → Type} [FloatOps F] : Cert.Kernel.defs (F := F) = Cert.KernelIdeal.defs :=
  congrArg (Pipeline.defs Cert.KernelIdeal.pcfgs) bodies_eq

/-- So the one run serves for both. -/
theorem frame_kernel : Cert.quiescent_Kernel := fun m ρ _ => by
  have h := kept (F := Bits) m ρ
  rw [← tables_eq] at h
  exact h

theorem frame_ideal : Cert.quiescent_KernelIdeal := fun m ρ _ => kept (F := Ideal) m ρ

/-- The reference has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the product, and each device ends with its block of it. -/
theorem same_value : Cert.algebraic_KernelIdeal_ReferenceIdeal := by
  intro m ρ m' ρ' _ hargs
  refine ⟨Cert.Ring.product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (run (F := Ideal) m ρ)
    exact Cert.Ring.out_eq _ _ _ _ (fun c => (hargs c).1) (fun c => (hargs c).2) c
  · exact (θ_run Cert.ReferenceIdeal.defs _ _).mono (fun _ h => ⟨(h 0).1.trans (Cert.Ring.reference_eq _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, same_value⟩

end Cert.Proof

end
